-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zeros_below_128 [hPre_zeros_below_128 : Cert.Pre_zeros_below_128.Facts] (m : (ℓ : Loc Cert.KernelIdeal.nD Cert.KernelIdeal.τ Cert.KernelIdeal.sig) → Buf (Elt Ideal) ℓ) : Prop :=
  ∀ c : Dev Cert.KernelIdeal.nD,
    (Cert.Pre_zeros_below_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zeros_below_128 [hPre_zeros_below_128 : Cert.Pre_zeros_below_128.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zeros_below_128.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_zeros_below_128 [hKernelIdeal : Cert.KernelIdeal.Facts] [hPre_zeros_below_128 : Cert.Pre_zeros_below_128.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zeros_below_128 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_zeros_below_128 [hReferenceIdeal : Cert.ReferenceIdeal.Facts] [hPre_zeros_below_128 : Cert.Pre_zeros_below_128.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zeros_below_128 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_zeros_below_128 [hKernelIdeal : Cert.KernelIdeal.Facts] [hReferenceIdeal : Cert.ReferenceIdeal.Facts] [hPre_zeros_below_128 : Cert.Pre_zeros_below_128.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zeros_below_128 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_zeros_below_128 : Cert.Pre_zeros_below_128.Facts),
    quiescent_Kernel (hKernel := hKernel)
    ∧ quiescent_KernelIdeal (hKernelIdeal := hKernelIdeal)
    ∧ quiescent_KernelIdeal_pre_zeros_below_128 (hKernelIdeal := hKernelIdeal) (hPre_zeros_below_128 := hPre_zeros_below_128)
    ∧ quiescent_ReferenceIdeal (hReferenceIdeal := hReferenceIdeal)
    ∧ quiescent_ReferenceIdeal_pre_zeros_below_128 (hReferenceIdeal := hReferenceIdeal) (hPre_zeros_below_128 := hPre_zeros_below_128)
    ∧ preserves_Kernel_KernelIdeal
    ∧ algebraic_KernelIdeal_ReferenceIdeal_pre_zeros_below_128 (hKernelIdeal := hKernelIdeal) (hReferenceIdeal := hReferenceIdeal) (hPre_zeros_below_128 := hPre_zeros_below_128)
-- ==== Pre_zeros_below_128.lean ====
abbrev S24x1024x2880 : Shape := ⟨3, ![24, 1024, 2880]⟩
abbrev S1440x5120 : Shape := ⟨2, ![1440, 5120]⟩
abbrev S90x5120 : Shape := ⟨2, ![90, 5120]⟩
abbrev S5x90x16 : Shape := ⟨3, ![5, 90, 16]⟩
abbrev S5x16x5120 : Shape := ⟨3, ![5, 16, 5120]⟩
abbrev S24x1024 : Shape := ⟨2, ![24, 1024]⟩
abbrev S_ : Shape := ⟨0, ![]⟩

class Facts : Prop where
  bcast_S_S90x5120 : S_.BroadcastsInDim S90x5120 (![] : Fin 0 → Fin S90x5120.rank)

variable [Facts]

def fn {F : FTy → Type} [FloatOps F] (main_arg0 : FVec F S24x1024x2880 .bf16) (main_arg1 : IVec S1440x5120 8) (main_arg2 : IVec S90x5120 16) (main_arg3 : IVec S90x5120 8) (main_arg4 : FVec F S5x90x16 .bf16) (main_arg5 : FVec F S5x16x5120 .bf16) (main_arg6 : IVec S24x1024 32) : IVec S90x5120 1 :=
  let main_c : IVec S_ 8 := constantI S_ 8 128#8
  let main_v0 : IVec S90x5120 8 := broadcastInDim S90x5120 ![] bcast_S_S90x5120 main_c
  let main_v1 : IVec S90x5120 1 := cmpi .ult main_arg3 main_v0
  main_v1
-- ==== Kernel.lean ====
abbrev S24x1024x2880 : Shape := ⟨3, ![24, 1024, 2880]⟩
abbrev S1440x5120 : Shape := ⟨2, ![1440, 5120]⟩
abbrev S90x5120 : Shape := ⟨2, ![90, 5120]⟩
abbrev S5x90x16 : Shape := ⟨3, ![5, 90, 16]⟩
abbrev S5x16x5120 : Shape := ⟨3, ![5, 16, 5120]⟩
abbrev S24x1024 : Shape := ⟨2, ![24, 1024]⟩
abbrev S24576x2880 : Shape := ⟨2, ![24576, 2880]⟩
abbrev S24576x1 : Shape := ⟨2, ![24576, 1]⟩
abbrev S_ : Shape := ⟨0, ![]⟩
abbrev S2880 : Shape := ⟨1, ![2880]⟩
abbrev S2880x1 : Shape := ⟨2, ![2880, 1]⟩
abbrev S128 : Shape := ⟨1, ![128]⟩
abbrev S1x128 : Shape := ⟨2, ![1, 128]⟩
abbrev S2880x128 : Shape := ⟨2, ![2880, 128]⟩
abbrev S90x5x16 : Shape := ⟨3, ![90, 5, 16]⟩
abbrev S90x80 : Shape := ⟨2, ![90, 80]⟩
abbrev S128x256 : Shape := ⟨2, ![128, 256]⟩
abbrev S80x5120 : Shape := ⟨2, ![80, 5120]⟩
abbrev S24576x5120 : Shape := ⟨2, ![24576, 5120]⟩
abbrev S512x2880 : Shape := ⟨2, ![512, 2880]⟩
abbrev S512x1 : Shape := ⟨2, ![512, 1]⟩
abbrev S512x5120 : Shape := ⟨2, ![512, 5120]⟩
abbrev S3072x5120 : Shape := ⟨2, ![3072, 5120]⟩
abbrev S512x256 : Shape := ⟨2, ![512, 256]⟩
abbrev S32x5120 : Shape := ⟨2, ![32, 5120]⟩
abbrev S16x5120 : Shape := ⟨2, ![16, 5120]⟩
abbrev S1x5120 : Shape := ⟨2, ![1, 5120]⟩
abbrev S112x5120 : Shape := ⟨2, ![112, 5120]⟩
abbrev S512x128 : Shape := ⟨2, ![512, 128]⟩
abbrev S512x64 : Shape := ⟨2, ![512, 64]⟩
abbrev S512x2816 : Shape := ⟨2, ![512, 2816]⟩
abbrev S2816x512 : Shape := ⟨2, ![2816, 512]⟩
abbrev S512x512 : Shape := ⟨2, ![512, 512]⟩
abbrev S256x512 : Shape := ⟨2, ![256, 512]⟩
abbrev S24x1024x5120 : Shape := ⟨3, ![24, 1024, 5120]⟩

abbrev nBuf : Space → Nat
  | .hbm => 56
  | .vmem => 14
  | .smem => 0
  | _ => 0

abbrev bufTy : (tb : Table) → Fin (tcTables nBuf tb) → BufTy
  | .hbm, ⟨0, _⟩ => ⟨S24x1024x2880, .bf16⟩
  | .hbm, ⟨1, _⟩ => ⟨S1440x5120, .i8⟩
  | .hbm, ⟨2, _⟩ => ⟨S90x5120, .i16⟩
  | .hbm, ⟨3, _⟩ => ⟨S90x5120, .i8⟩
  | .hbm, ⟨4, _⟩ => ⟨S5x90x16, .bf16⟩
  | .hbm, ⟨5, _⟩ => ⟨S5x16x5120, .bf16⟩
  | .hbm, ⟨6, _⟩ => ⟨S24x1024, .i32⟩
  | .hbm, ⟨7, _⟩ => ⟨S24576x2880, .bf16⟩
  | .hbm, ⟨8, _⟩ => ⟨S24576x1, .i32⟩
  | .hbm, ⟨9, _⟩ => ⟨S90x5120, .i32⟩
  | .hbm, ⟨10, _⟩ => ⟨S_, .i32⟩
  | .hbm, ⟨11, _⟩ => ⟨S90x5120, .i32⟩
  | .hbm, ⟨12, _⟩ => ⟨S90x5120, .i32⟩
  | .hbm, ⟨13, _⟩ => ⟨S90x5120, .i32⟩
  | .hbm, ⟨14, _⟩ => ⟨S90x5120, .i32⟩
  | .hbm, ⟨15, _⟩ => ⟨S_, .i32⟩
  | .hbm, ⟨16, _⟩ => ⟨S90x5120, .i32⟩
  | .hbm, ⟨17, _⟩ => ⟨S90x5120, .i32⟩
  | .hbm, ⟨18, _⟩ => ⟨S90x5120, .i32⟩
  | .hbm, ⟨19, _⟩ => ⟨S_, .i32⟩
  | .hbm, ⟨20, _⟩ => ⟨S90x5120, .i32⟩
  | .hbm, ⟨21, _⟩ => ⟨S90x5120, .i32⟩
  | .hbm, ⟨22, _⟩ => ⟨S2880, .i32⟩
  | .hbm, ⟨23, _⟩ => ⟨S2880x1, .i32⟩
  | .hbm, ⟨24, _⟩ => ⟨S_, .i32⟩
  | .hbm, ⟨25, _⟩ => ⟨S_, .i32⟩
  | .hbm, ⟨26, _⟩ => ⟨S2880x1, .i32⟩
  | .hbm, ⟨27, _⟩ => ⟨S2880x1, .i32⟩
  | .hbm, ⟨28, _⟩ => ⟨S2880x1, .i32⟩
  | .hbm, ⟨29, _⟩ => ⟨S_, .i32⟩
  | .hbm, ⟨30, _⟩ => ⟨S2880x1, .i32⟩
  | .hbm, ⟨31, _⟩ => ⟨S2880x1, .i1⟩
  | .hbm, ⟨32, _⟩ => ⟨S2880x1, .i32⟩
  | .hbm, ⟨33, _⟩ => ⟨S2880x1, .i32⟩
  | .hbm, ⟨34, _⟩ => ⟨S_, .i32⟩
  | .hbm, ⟨35, _⟩ => ⟨S2880x1, .i32⟩
  | .hbm, ⟨36, _⟩ => ⟨S2880x1, .i1⟩
  | .hbm, ⟨37, _⟩ => ⟨S2880x1, .i1⟩
  | .hbm, ⟨38, _⟩ => ⟨S_, .i32⟩
  | .hbm, ⟨39, _⟩ => ⟨S2880x1, .i32⟩
  | .hbm, ⟨40, _⟩ => ⟨S2880x1, .i32⟩
  | .hbm, ⟨41, _⟩ => ⟨S2880x1, .i32⟩
  | .hbm, ⟨42, _⟩ => ⟨S128, .i32⟩
  | .hbm, ⟨43, _⟩ => ⟨S1x128, .i32⟩
  | .hbm, ⟨44, _⟩ => ⟨S2880x128, .i32⟩
  | .hbm, ⟨45, _⟩ => ⟨S2880x128, .i32⟩
  | .hbm, ⟨46, _⟩ => ⟨S2880x128, .i1⟩
  | .hbm, ⟨47, _⟩ => ⟨S2880x128, .bf16⟩
  | .hbm, ⟨48, _⟩ => ⟨S90x5x16, .bf16⟩
  | .hbm, ⟨49, _⟩ => ⟨S90x80, .bf16⟩
  | .hbm, ⟨50, _⟩ => ⟨S_, .i32⟩
  | .hbm, ⟨51, _⟩ => ⟨S_, .bf16⟩
  | .hbm, ⟨52, _⟩ => ⟨S128x256, .bf16⟩
  | .hbm, ⟨53, _⟩ => ⟨S80x5120, .bf16⟩
  | .hbm, ⟨54, _⟩ => ⟨S24576x5120, .bf16⟩
  | .hbm, ⟨55, _⟩ => ⟨S24x1024x5120, .bf16⟩
  | .local _ .vmem, ⟨0, _⟩ => ⟨S512x2880, .bf16⟩
  | .local _ .vmem, ⟨1, _⟩ => ⟨S512x2880, .bf16⟩
  | .local _ .vmem, ⟨2, _⟩ => ⟨S512x1, .i32⟩
  | .local _ .vmem, ⟨3, _⟩ => ⟨S512x1, .i32⟩
  | .local _ .vmem, ⟨4, _⟩ => ⟨S1440x5120, .i8⟩
  | .local _ .vmem, ⟨5, _⟩ => ⟨S90x5120, .i32⟩
  | .local _ .vmem, ⟨6, _⟩ => ⟨S90x5120, .i32⟩
  | .local _ .vmem, ⟨7, _⟩ => ⟨S2880x128, .bf16⟩
  | .local _ .vmem, ⟨8, _⟩ => ⟨S128x256, .bf16⟩
  | .local _ .vmem, ⟨9, _⟩ => ⟨S80x5120, .bf16⟩
  | .local _ .vmem, ⟨10, _⟩ => ⟨S512x5120, .bf16⟩
  | .local _ .vmem, ⟨11, _⟩ => ⟨S512x5120, .bf16⟩
  | .local _ .vmem, ⟨12, _⟩ => ⟨S3072x5120, .bf16⟩
  | .local _ .vmem, ⟨13, _⟩ => ⟨S512x256, .bf16⟩
  | _, _ => ⟨S24x1024x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_call1_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_128 : BitVec 32 := 0#32
  let c45_i32 : BitVec 32 := 45#32
  let v136 : BitVec 32 := Scalar.addi c0_i32_128 c45_i32
  let c1_i32 : BitVec 32 := 1#32
  ⟨c0_i32_128, v136, c1_i32⟩
def k0_mult1 (k0_t1 : Fin k0_t1_loop.trips) : BitVec 32 :=
  let c0_i32_128 : BitVec 32 := 0#32
  let c1_i32 : BitVec 32 := 1#32
  let arg12 : BitVec 32 := Scf.iv c0_i32_128 c1_i32 k0_t1
  let c32_i32 : BitVec 32 := 32#32
  let v146 : BitVec 32 := Scalar.muli arg12 c32_i32
  v146
def k0_off1 (k0_t1 : Fin k0_t1_loop.trips) : Fin 2 → Nat :=
  let c0_i32_128 : BitVec 32 := 0#32
  let c1_i32 : BitVec 32 := 1#32
  let arg12 : BitVec 32 := Scf.iv c0_i32_128 c1_i32 k0_t1
  let c32_i32 : BitVec 32 := 32#32
  let v146 : BitVec 32 := Scalar.muli arg12 c32_i32
  let v147 : BitVec 32 := v146
  let v148 : Index := Scalar.indexCast v147
  let c0_135 : Index := 0#32
  ![v148.toNat, 0]
def k0_off2 (k0_t1 : Fin k0_t1_loop.trips) (c0_i32_136 : BitVec 32) : Fin 2 → Nat :=
  let c0_i32_128 : BitVec 32 := 0#32
  let c1_i32 : BitVec 32 := 1#32
  let arg12 : BitVec 32 := Scf.iv c0_i32_128 c1_i32 k0_t1
  let c2_i32 : BitVec 32 := 2#32
  let v151 : BitVec 32 := Scalar.muli arg12 c2_i32
  let v152 : BitVec 32 := Scalar.addi v151 c0_i32_136
  let v162 : Index := Scalar.indexCast v152
  let c0_137 : Index := 0#32
  ![v162.toNat, 0]
def k0_mult2 (k0_t1 : Fin k0_t1_loop.trips) : BitVec 32 :=
  let c0_i32_128 : BitVec 32 := 0#32
  let c1_i32 : BitVec 32 := 1#32
  let arg12 : BitVec 32 := Scf.iv c0_i32_128 c1_i32 k0_t1
  let c2_i32 : BitVec 32 := 2#32
  let v151 : BitVec 32 := Scalar.muli arg12 c2_i32
  let c0_i32_136 : BitVec 32 := 0#32
  let v152 : BitVec 32 := Scalar.addi v151 c0_i32_136
  let c32_i32_139 : BitVec 32 := 32#32
  let v176 : BitVec 32 := Scalar.muli v152 c32_i32_139
  v176
def k0_off3 (k0_t1 : Fin k0_t1_loop.trips) (c0_i32_136 : BitVec 32) : Fin 2 → Nat :=
  let c0_i32_128 : BitVec 32 := 0#32
  let c1_i32 : BitVec 32 := 1#32
  let arg12 : BitVec 32 := Scf.iv c0_i32_128 c1_i32 k0_t1
  let c2_i32 : BitVec 32 := 2#32
  let v151 : BitVec 32 := Scalar.muli arg12 c2_i32
  let v152 : BitVec 32 := Scalar.addi v151 c0_i32_136
  let c32_i32_139 : BitVec 32 := 32#32
  let v176 : BitVec 32 := Scalar.muli v152 c32_i32_139
  let v177 : BitVec 32 := v176
  let v178 : Index := Scalar.indexCast v177
  let c0_140 : Index := 0#32
  ![v178.toNat, 0]
def k0_mult3 (k0_t1 : Fin k0_t1_loop.trips) : BitVec 32 :=
  let c0_i32_128 : BitVec 32 := 0#32
  let c1_i32 : BitVec 32 := 1#32
  let arg12 : BitVec 32 := Scf.iv c0_i32_128 c1_i32 k0_t1
  let c2_i32_141 : BitVec 32 := 2#32
  let v182 : BitVec 32 := Scalar.muli arg12 c2_i32_141
  let c1_i32_142 : BitVec 32 := 1#32
  let v183 : BitVec 32 := Scalar.addi v182 c1_i32_142
  let c32_i32_148 : BitVec 32 := 32#32
  let v207 : BitVec 32 := Scalar.muli v183 c32_i32_148
  v207
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2880 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1440x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S90x5120 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S90x5120 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2880x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S24x1024x2880 : Shape := ⟨3, ![24, 1024, 2880]⟩
abbrev S1440x5120 : Shape := ⟨2, ![1440, 5120]⟩
abbrev S90x5120 : Shape := ⟨2, ![90, 5120]⟩
abbrev S5x90x16 : Shape := ⟨3, ![5, 90, 16]⟩
abbrev S5x16x5120 : Shape := ⟨3, ![5, 16, 5120]⟩
abbrev S24x1024 : Shape := ⟨2, ![24, 1024]⟩
abbrev S90x1x5120 : Shape := ⟨3, ![90, 1, 5120]⟩
abbrev S_ : Shape := ⟨0, ![]⟩
abbrev S90x16x5120 : Shape := ⟨3, ![90, 16, 5120]⟩
abbrev S1440x1x5120 : Shape := ⟨3, ![1440, 1, 5120]⟩
abbrev S1440x2x5120 : Shape := ⟨3, ![1440, 2, 5120]⟩
abbrev S2880x5120 : Shape := ⟨2, ![2880, 5120]⟩
abbrev S24x1024x5120 : Shape := ⟨3, ![24, 1024, 5120]⟩
abbrev S24x1024x90x32 : Shape := ⟨4, ![24, 1024, 90, 32]⟩
abbrev S24x1024x90 : Shape := ⟨3, ![24, 1024, 90]⟩
abbrev S24x1024x5x16 : Shape := ⟨4, ![24, 1024, 5, 16]⟩
abbrev S24x1024x1 : Shape := ⟨3, ![24, 1024, 1]⟩
abbrev S1x1x5 : Shape := ⟨3, ![1, 1, 5]⟩
abbrev S24x1024x5 : Shape := ⟨3, ![24, 1024, 5]⟩
abbrev S24x1024x5x1 : Shape := ⟨4, ![24, 1024, 5, 1]⟩

abbrev nBuf : Space → Nat
  | .hbm => 63
  | .vmem => 0
  | .smem => 0
  | _ => 0

abbrev bufTy : (tb : Table) → Fin (tcTables nBuf tb) → BufTy
  | .hbm, ⟨0, _⟩ => ⟨S24x1024x2880, .bf16⟩
  | .hbm, ⟨1, _⟩ => ⟨S1440x5120, .i8⟩
  | .hbm, ⟨2, _⟩ => ⟨S90x5120, .i16⟩
  | .hbm, ⟨3, _⟩ => ⟨S90x5120, .i8⟩
  | .hbm, ⟨4, _⟩ => ⟨S5x90x16, .bf16⟩
  | .hbm, ⟨5, _⟩ => ⟨S5x16x5120, .bf16⟩
  | .hbm, ⟨6, _⟩ => ⟨S24x1024, .i32⟩
  | .hbm, ⟨7, _⟩ => ⟨S90x5120, .i32⟩
  | .hbm, ⟨8, _⟩ => ⟨S90x5120, .bf16⟩
  | .hbm, ⟨9, _⟩ => ⟨S90x1x5120, .bf16⟩
  | .hbm, ⟨10, _⟩ => ⟨S90x5120, .bf16⟩
  | .hbm, ⟨11, _⟩ => ⟨S90x1x5120, .bf16⟩
  | .hbm, ⟨12, _⟩ => ⟨S1440x5120, .i32⟩
  | .hbm, ⟨13, _⟩ => ⟨S_, .i32⟩
  | .hbm, ⟨14, _⟩ => ⟨S1440x5120, .i32⟩
  | .hbm, ⟨15, _⟩ => ⟨S1440x5120, .i32⟩
  | .hbm, ⟨16, _⟩ => ⟨S1440x5120, .bf16⟩
  | .hbm, ⟨17, _⟩ => ⟨S90x16x5120, .bf16⟩
  | .hbm, ⟨18, _⟩ => ⟨S90x16x5120, .bf16⟩
  | .hbm, ⟨19, _⟩ => ⟨S90x16x5120, .bf16⟩
  | .hbm, ⟨20, _⟩ => ⟨S90x16x5120, .bf16⟩
  | .hbm, ⟨21, _⟩ => ⟨S90x16x5120, .bf16⟩
  | .hbm, ⟨22, _⟩ => ⟨S1440x5120, .bf16⟩
  | .hbm, ⟨23, _⟩ => ⟨S_, .i32⟩
  | .hbm, ⟨24, _⟩ => ⟨S1440x5120, .i32⟩
  | .hbm, ⟨25, _⟩ => ⟨S1440x5120, .i32⟩
  | .hbm, ⟨26, _⟩ => ⟨S1440x5120, .bf16⟩
  | .hbm, ⟨27, _⟩ => ⟨S90x16x5120, .bf16⟩
  | .hbm, ⟨28, _⟩ => ⟨S90x16x5120, .bf16⟩
  | .hbm, ⟨29, _⟩ => ⟨S90x16x5120, .bf16⟩
  | .hbm, ⟨30, _⟩ => ⟨S90x16x5120, .bf16⟩
  | .hbm, ⟨31, _⟩ => ⟨S90x16x5120, .bf16⟩
  | .hbm, ⟨32, _⟩ => ⟨S1440x5120, .bf16⟩
  | .hbm, ⟨33, _⟩ => ⟨S1440x1x5120, .bf16⟩
  | .hbm, ⟨34, _⟩ => ⟨S1440x1x5120, .bf16⟩
  | .hbm, ⟨35, _⟩ => ⟨S1440x2x5120, .bf16⟩
  | .hbm, ⟨36, _⟩ => ⟨S2880x5120, .bf16⟩
  | .hbm, ⟨37, _⟩ => ⟨S24x1024x5120, .f32⟩
  | .hbm, ⟨38, _⟩ => ⟨S24x1024x2880, .f32⟩
  | .hbm, ⟨39, _⟩ => ⟨S24x1024x90x32, .f32⟩
  | .hbm, ⟨40, _⟩ => ⟨S_, .f32⟩
  | .hbm, ⟨41, _⟩ => ⟨S24x1024x90, .f32⟩
  | .hbm, ⟨42, _⟩ => ⟨S_, .f32⟩
  | .hbm, ⟨43, _⟩ => ⟨S24x1024x90, .f32⟩
  | .hbm, ⟨44, _⟩ => ⟨S24x1024x90, .f32⟩
  | .hbm, ⟨45, _⟩ => ⟨S24x1024x90, .bf16⟩
  | .hbm, ⟨46, _⟩ => ⟨S24x1024x5x16, .f32⟩
  | .hbm, ⟨47, _⟩ => ⟨S24x1024x1, .i32⟩
  | .hbm, ⟨48, _⟩ => ⟨S1x1x5, .i32⟩
  | .hbm, ⟨49, _⟩ => ⟨S24x1024x5, .i32⟩
  | .hbm, ⟨50, _⟩ => ⟨S24x1024x5, .i32⟩
  | .hbm, ⟨51, _⟩ => ⟨S24x1024x5, .i1⟩
  | .hbm, ⟨52, _⟩ => ⟨S24x1024x5, .f32⟩
  | .hbm, ⟨53, _⟩ => ⟨S_, .f32⟩
  | .hbm, ⟨54, _⟩ => ⟨S24x1024x5x16, .f32⟩
  | .hbm, ⟨55, _⟩ => ⟨S24x1024x5x16, .f32⟩
  | .hbm, ⟨56, _⟩ => ⟨S24x1024x5x1, .f32⟩
  | .hbm, ⟨57, _⟩ => ⟨S24x1024x5x16, .f32⟩
  | .hbm, ⟨58, _⟩ => ⟨S24x1024x5x16, .f32⟩
  | .hbm, ⟨59, _⟩ => ⟨S24x1024x5x16, .bf16⟩
  | .hbm, ⟨60, _⟩ => ⟨S24x1024x5120, .f32⟩
  | .hbm, ⟨61, _⟩ => ⟨S24x1024x5120, .f32⟩
  | .hbm, ⟨62, _⟩ => ⟨S24x1024x5120, .bf16⟩
  | _, _ => ⟨S24x1024x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.KernelFrame.lean ====
/- The frame of the kernel, with floats of any kind: the run ends, the arguments are unchanged and every semaphore counter
   is zero. Nothing is said of what the output or the scratch buffers hold. -/
module

public import proofs.«01_k».proof.Proof.Gen.Kernel.Loops
public import proofs.«01_k».proof.Proof.Gen.Kernel.Frame

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body -/

-- (the run's proof term is large: checking it walks past the default budget)
set_option maxHeartbeats 1000000 in
/-- At every point: with the inputs at their contents and the output and the scratch buffers at any, the body ends with the
    inputs as they were. -/
theorem body_run (c : Dev nD) (i : grid0.Coords) (arg1 : Memref sig .tc .vmem S512x2880 .bf16) (harg1 : arg1.IsWhole) (arg2 : Memref sig .tc .vmem S512x1 .i32) (harg2 : arg2.IsWhole) (arg3 : Memref sig .tc .vmem S1440x5120 .i8) (harg3 : arg3.IsWhole) (arg4 : Memref sig .tc .vmem S90x5120 .i32) (harg4 : arg4.IsWhole) (arg5 : Memref sig .tc .vmem S90x5120 .i32) (harg5 : arg5.IsWhole) (arg6 : Memref sig .tc .vmem S2880x128 .bf16) (harg6 : arg6.IsWhole) (arg7 : Memref sig .tc .vmem S128x256 .bf16) (harg7 : arg7.IsWhole) (arg8 : Memref sig .tc .vmem S80x5120 .bf16) (harg8 : arg8.IsWhole) (arg9 : Memref sig .tc .vmem S512x5120 .bf16) (harg9 : arg9.IsWhole) (arg10 : Memref sig .tc .vmem S3072x5120 .bf16) (harg10 : arg10.IsWhole) (arg11 : Memref sig .tc .vmem S512x256 .bf16) (harg11 : arg11.IsWhole)
    (x0 : Vec F S512x2880 .bf16) (x1 : Vec F S512x1 .i32) (x2 : Vec F S1440x5120 .i8) (x3 : Vec F S90x5120 .i32) (x4 : Vec F S90x5120 .i32) (x5 : Vec F S2880x128 .bf16) (x6 : Vec F S128x256 .bf16) (x7 : Vec F S80x5120 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_qalora i arg1 harg1 arg2 harg2 arg3 harg3 arg4 harg4 arg5 harg5 arg6 harg6 arg7 harg7 arg8 harg8 arg9 harg9 arg10 harg10 arg11 harg11) K := by
  simp only [cc0_qalora_eq_skeleton]; unfold cc0_qalora_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  by_cases hc : k0_cond1 i = 1#1
  all_goals
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

/-! ## The proof data -/

variable (m : (ℓ : Loc nD τ sig) → Buf (Elt F) ℓ) (ρ : Dev nD → PrngReg)

/-- The windows of which the data say nothing: the output's. -/
def forgotten (w : Fin cfg0.W) : Bool := match w with
  | ⟨8, _⟩ => true
  | _ => false

/-- The proof data on core `c`: each input's buffer stays at its block; the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

/-- Each window's current staging memref at point `t`. -/
abbrev ms0 (t : Fin cfg0.N) : Memref sig .tc .vmem S512x2880 .bf16 := win0_0.stage (cfg0.slots t 0)
abbrev ms1 (t : Fin cfg0.N) : Memref sig .tc .vmem S512x1 .i32 := win0_1.stage (cfg0.slots t 1)
abbrev ms2 (t : Fin cfg0.N) : Memref sig .tc .vmem S1440x5120 .i8 := win0_2.stage (cfg0.slots t 2)
abbrev ms3 (t : Fin cfg0.N) : Memref sig .tc .vmem S90x5120 .i32 := win0_3.stage (cfg0.slots t 3)
abbrev ms4 (t : Fin cfg0.N) : Memref sig .tc .vmem S90x5120 .i32 := win0_4.stage (cfg0.slots t 4)
abbrev ms5 (t : Fin cfg0.N) : Memref sig .tc .vmem S2880x128 .bf16 := win0_5.stage (cfg0.slots t 5)
abbrev ms6 (t : Fin cfg0.N) : Memref sig .tc .vmem S128x256 .bf16 := win0_6.stage (cfg0.slots t 6)
abbrev ms7 (t : Fin cfg0.N) : Memref sig .tc .vmem S80x5120 .bf16 := win0_7.stage (cfg0.slots t 7)
abbrev ms8 (t : Fin cfg0.N) : Memref sig .tc .vmem S512x5120 .bf16 := win0_8.stage (cfg0.slots t 8)

/-- The two scratch buffers. -/
abbrev sc0 : Memref sig .tc .vmem S3072x5120 .bf16 := Memref.whole cc0_scratch0
abbrev sc1 : Memref sig .tc .vmem S512x256 .bf16 := Memref.whole cc0_scratch1

/-- The region's invariant, with the scratch buffers as memrefs. -/
theorem invariant_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What the body is called with at point `t`, the windows one by one. -/
def bodyPre (c : Dev nD) (t : Fin cfg0.N) : sProp 𝕄 :=
  iprop(Pipeline.ΦA spec0 c ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d))

/-- And what it returns. -/
def bodyPost (c : Dev nD) (t : Fin cfg0.N) : sProp 𝕄 :=
  iprop(Pipeline.ΦA spec0 c ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, after_0, after_1, after_2, after_3, after_4, after_5, after_6, after_7]
  rw [show (dats m 0 c).owesAt () t.succ = (dats m 0 c).owesAt () t.castSucc from rfl, invariant_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (body_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point, the output's window forgotten. -/
theorem body_obligation (c : Dev nD) : BodyObligation (dats m 0 c) (defs₀ (F := F)) Variants.none () Set.univ forgotten := fun t => by
  rw [bigSep_W0, bigSep_W0, defs₀_row]
  exact triple_restated (sound_body m c t) rfl .rfl fun _ => .rfl

/-! ## The frame -/

/-- The host line after the region writes the result buffer only. -/
theorem tail_writes : ∀ ops ∈ ([hostOps1] : List (List (HloOp τ sig (Elt F)))), ∀ op ∈ ops, ∀ b : Ref sig .tc,
    Proc.devRef .tc b ∈ op.writes → b ∈ ({main_v26} : Finset (Ref sig .tc)) := by
  intro ops hops op hop b hb
  simp only [List.mem_cons, List.mem_nil_iff, or_false] at hops
  obtain rfl := hops
  simp only [hostOps1, List.mem_cons, List.mem_nil_iff, or_false] at hop
  obtain rfl := hop
  simp only [StableHlo.reshape_writes, Finset.mem_singleton] at hb ⊢
  by_contra hne
  exact StableHlo.devRef_ne_of_ne hne hb

set_option backward.isDefEq.respectTransparency.types false in
set_option maxHeartbeats 800000 in
/-- The kernel ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_around_T_forget cfgs (dats m) (0 : Fin 1) launch0 defs₀ Variants.none forgotten {main_v26} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl) (Q' := _)
    (hQ' := fun r h => ⟨fun c => ⟨
        ((h.1 c).2 main_arg0 (Finset.mem_sdiff.mpr ⟨Pipeline.mem_restRefs_of main_arg0 (by decide) (by decide), by decide⟩)).trans (V_main_arg0 m c),
        (h.1.arr_in c 2 rfl).trans (V_main_arg1 m c),
        ((h.1 c).2 main_arg2 (Finset.mem_sdiff.mpr ⟨Pipeline.mem_restRefs_of main_arg2 (by decide) (by decide), by decide⟩)).trans (V_main_arg2 m c),
        ((h.1 c).2 main_arg3 (Finset.mem_sdiff.mpr ⟨Pipeline.mem_restRefs_of main_arg3 (by decide) (by decide), by decide⟩)).trans (V_main_arg3 m c),
        ((h.1 c).2 main_arg4 (Finset.mem_sdiff.mpr ⟨Pipeline.mem_restRefs_of main_arg4 (by decide) (by decide), by decide⟩)).trans (V_main_arg4 m c),
        ((h.1 c).2 main_arg5 (Finset.mem_sdiff.mpr ⟨Pipeline.mem_restRefs_of main_arg5 (by decide) (by decide), by decide⟩)).trans (V_main_arg5 m c),
        ((h.1 c).2 main_arg6 (Finset.mem_sdiff.mpr ⟨Pipeline.mem_restRefs_of main_arg6 (by decide) (by decide), by decide⟩)).trans (V_main_arg6 m c)⟩, h.2⟩)

end Cert.Kernel.Hand

end
-- ==== Proof.Points.lean ====
/- What every run of the kernel's body shares: the condition of its one `scf.if` in closed form, the staging memrefs at a
   point, the two scratch buffers, and the class's invariant with the scratch buffers as memrefs. -/
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x2880 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1440x5120 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S90x5120 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S90x5120 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2880x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S80x5120 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x5120 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S3072x5120 .bf16 := Memref.whole cc0_scratch0
abbrev scM0_1 : Memref sig .tc .vmem S512x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Values.lean ====
/- What one grid point of the kernel computes, as functions of the blocks it is given: the adapter tail (`tailV`), the
   dequantized weights with the adapter rows under them (`weightV`), and the output block (`blockV`). -/
module

public import proofs.«01_k».proof.Proof.Points
public import Idealize.ShloMosaic.PureOps.Ideal.Laws
public import Idealize.ShloMosaic.Lib.MatmulPlain
public import Idealize.ShloMosaic.Lib.ValueIdx
public import Idealize.ShloMosaic.Lib.BitcastPair
public import Idealize.ShloMosaic.Lib.Pipeline.Value
public import Idealize.ShloMosaic.Lib.WritesUnit
public import Idealize.ShloMosaic.Lib.ValueLayout

@[expose] public section

set_option maxRecDepth 16384

noncomputable section

namespace Cert.KernelIdeal.Hand

open Cert.KernelIdeal.Gen
open Idealize.ShloMosaic Idealize.ShloMosaic.ValueIdx Idealize.SL.Sem
open scoped BigOperators

/-! ## The dequantized weights -/

/-- The bf16 value of the half of the 32-bit word `w` that row `r` reads: the low half on even rows, the high on odd. -/
def half (r : ℕ) (w : BitVec 32) : EReal := Ideal.ofBits .bf16 (w.extractLsb' (16 * (r % 2)) 16)

/-- A code byte with its two four-bit fields spread to the two halves of a word, each under the exponent of 128. -/
def mix (b : BitVec 8) : BitVec 32 :=
  (((b.setWidth 32) ||| ((b.setWidth 32) <<< (12#32 : BitVec 32))) &&& 983055#32) ||| 1124090624#32

/-- Row `r`, column `o` of the dequantized weights from the code bytes, the scale words and the zero-point words. -/
def deqV (x2 : Vec Ideal S1440x5120 .i8) (x3 x4 : Vec Ideal S90x5120 .i32) (r : ℕ) (hr : r < 2880) (o : Fin 5120) : EReal :=
  (half r (mix (x2 (ix2 ⟨r / 2, by omega⟩ o))) - half r (x4 (ix2 ⟨r / 32, by omega⟩ o)))
    * half r (x3 (ix2 ⟨r / 32, by omega⟩ o))

/-- What the weight scratch holds once filled: 2880 dequantized rows, 80 adapter rows, 112 rows of zeros. -/
def weightV (x2 : Vec Ideal S1440x5120 .i8) (x3 x4 : Vec Ideal S90x5120 .i32) (x7 : Vec Ideal S80x5120 .bf16) :
    Vec Ideal S3072x5120 .bf16 := fun y =>
  if h : (y (0 : Fin 2)).val < 2880 then deqV x2 x3 x4 (y (0 : Fin 2)).val h (y (1 : Fin 2))
  else if h' : (y (0 : Fin 2)).val < 2960 then x7 (ix2 ⟨(y (0 : Fin 2)).val - 2880, by omega⟩ (y (1 : Fin 2)))
  else 0

/-- The tail operand: the last 64 features of the tokens, then their masked adapter activations. -/
def tailV (x0 : Vec Ideal S512x2880 .bf16) (x1 : Vec Ideal S512x1 .i32) (x5 : Vec Ideal S2880x128 .bf16)
    (x6 : Vec Ideal S128x256 .bf16) : Vec Ideal S512x256 .bf16 := fun y =>
  if h : (y (1 : Fin 2)).val < 64 then x0 (ix2 (y (0 : Fin 2)) ⟨2816 + (y (1 : Fin 2)).val, by omega⟩)
  else k0_pay11 (F := Ideal) x0 x5 x6 x1 y

/-- The first 2816 features against the weights, plus a tail operand against the last 256 rows. -/
def blockOf (x0 : Vec Ideal S512x2880 .bf16) (T : Vec Ideal S512x256 .bf16) (W : Vec Ideal S3072x5120 .bf16) :
    Vec Ideal S512x5120 .bf16 := fun y =>
  (∑ k : Fin 2816, x0 (ix2 (y (0 : Fin 2)) ⟨k.val, by omega⟩) * W (ix2 ⟨k.val, by omega⟩ (y (1 : Fin 2))))
    + ∑ k : Fin 256, T (ix2 (y (0 : Fin 2)) k) * W (ix2 ⟨2816 + k.val, by omega⟩ (y (1 : Fin 2)))

/-- The output block of a point. -/
def blockV (x0 : Vec Ideal S512x2880 .bf16) (x1 : Vec Ideal S512x1 .i32) (x5 : Vec Ideal S2880x128 .bf16)
    (x6 : Vec Ideal S128x256 .bf16) (W : Vec Ideal S3072x5120 .bf16) : Vec Ideal S512x5120 .bf16 := blockOf x0 (tailV x0 x1 x5 x6) W

/-! ## The payloads of the body's stores -/

/-- One half of a word of two bf16s at an index, the words being 16 rows and the values 32. -/
theorem bitcast_half (v : IVec S16x5120 32) (i : Fin 32) (o : Fin 5120) :
    (bitcastToFloat .bf16 (bitcast S32x5120 16 v bitcasts_S16x5120_w32_S32x5120_w16) : FVec Ideal S32x5120 .bf16) (ix2 i o)
      = half i.val (v (ix2 ⟨i.val / 2, by omega⟩ o)) := by
  show Ideal.ofBits .bf16 (bitcast S32x5120 16 v bitcasts_S16x5120_w32_S32x5120_w16 (ix2 i o)) = _
  rw [bitcast_32_16]
  unfold half
  have hrow : S32x5120.row (ix2 i o) = i.val := rfl
  have hidx : bitcasts_S16x5120_w32_S32x5120_w16.srcIdx (ix2 i o) (S32x5120.row (ix2 i o) / 2) (fun a ha => by
        have := bitcasts_S16x5120_w32_S32x5120_w16.pos_lt (ix2 i o) 0 (by decide) a ha; omega) = ix2 ⟨i.val / 2, by omega⟩ o := by
    funext a; apply Fin.ext
    match a with
    | ⟨0, _⟩ => exact Shape.Bitcasts.srcIdx_row _ _ _ _ _ rfl
    | ⟨1, _⟩ => exact Shape.Bitcasts.srcIdx_other _ _ _ _ _ (by show ¬(1 + 2 = 2); omega)
  rw [hidx, hrow]

/-- The spread of the first sixteen code rows of a loaded block. -/
theorem low_rows (b : Vec Ideal S32x5120 .i8) (i : Fin 16) (o : Fin 5120) :
    ori (andi (ori (extractStridedSlice S16x5120 ![0, 0] (extui 32 b natLt_8_32) slices_S32x5120_o0_0_S16x5120)
          (shli (extractStridedSlice S16x5120 ![0, 0] (extui 32 b natLt_8_32) slices_S32x5120_o0_0_S16x5120)
            (broadcast S16x5120 12#32))) (broadcast S16x5120 983055#32)) (broadcast S16x5120 1124090624#32) (ix2 i o)
      = mix (b (ix2 ⟨i.val, by omega⟩ o)) := by
  have h : extractStridedSlice S16x5120 ![0, 0] (extui 32 b natLt_8_32) slices_S32x5120_o0_0_S16x5120 (ix2 i o)
      = (b (ix2 ⟨i.val, by omega⟩ o)).setWidth 32 := by
    unfold extractStridedSlice extui
    have : (fun a => ⟨(![0, 0] : Fin 2 → ℕ) a + ((ix2 i o : S16x5120.Idx) a).val, by fin_cases a <;> simp [ix2] <;> omega⟩ : S32x5120.Idx) = ix2 ⟨i.val, by omega⟩ o := by
      funext a; apply Fin.ext; fin_cases a <;> simp [ix2]
    exact congrArg (fun j => (b j).setWidth 32) this
  show IntOp.ori (IntOp.andi (IntOp.ori _ (IntOp.shli .vector _ 12#32)) 983055#32) 1124090624#32 = _
  rw [h]
  rfl

/-- The spread of the last sixteen code rows of a loaded block. -/
theorem high_rows (b : Vec Ideal S32x5120 .i8) (i : Fin 16) (o : Fin 5120) :
    ori (andi (ori (extractStridedSlice S16x5120 ![16, 0] (extui 32 b natLt_8_32) slices_S32x5120_o16_0_S16x5120)
          (shli (extractStridedSlice S16x5120 ![16, 0] (extui 32 b natLt_8_32) slices_S32x5120_o16_0_S16x5120)
            (broadcast S16x5120 12#32))) (broadcast S16x5120 983055#32)) (broadcast S16x5120 1124090624#32) (ix2 i o)
      = mix (b (ix2 ⟨16 + i.val, by omega⟩ o)) := by
  have h : extractStridedSlice S16x5120 ![16, 0] (extui 32 b natLt_8_32) slices_S32x5120_o16_0_S16x5120 (ix2 i o)
      = (b (ix2 ⟨16 + i.val, by omega⟩ o)).setWidth 32 := by
    unfold extractStridedSlice extui
    have : (fun a => ⟨(![16, 0] : Fin 2 → ℕ) a + ((ix2 i o : S16x5120.Idx) a).val, by fin_cases a <;> simp [ix2] <;> omega⟩ : S32x5120.Idx) = ix2 ⟨16 + i.val, by omega⟩ o := by
      funext a; apply Fin.ext; fin_cases a <;> simp [ix2]
    exact congrArg (fun j => (b j).setWidth 32) this
  show IntOp.ori (IntOp.andi (IntOp.ori _ (IntOp.shli .vector _ 12#32)) 983055#32) 1124090624#32 = _
  rw [h]
  rfl

/-- The first slab a trip stores. -/
theorem pay5_apply (b : Vec Ideal S32x5120 .i8) (z s : Vec Ideal S1x5120 .i32) (i : Fin 32) (o : Fin 5120) :
    k0_pay5 (F := Ideal) b z s (ix2 i o)
      = (half i.val (mix (b (ix2 ⟨i.val / 2, by omega⟩ o))) - half i.val (z (ix2 0 o))) * half i.val (s (ix2 0 o)) := by
  unfold k0_pay5 k0_pay4
  simp only [shapeCast_self]
  show (_ - _) * _ = _
  rw [bitcast_half, bitcast_half, bitcast_half, broadcastTo_1b_ab_apply, broadcastTo_1b_ab_apply, low_rows]

/-- The second slab a trip stores. -/
theorem pay8_apply (b : Vec Ideal S32x5120 .i8) (z s : Vec Ideal S1x5120 .i32) (i : Fin 32) (o : Fin 5120) :
    k0_pay8 (F := Ideal) (k0_pay6 (F := Ideal) b) k0_pay7 z s (ix2 i o)
      = (half i.val (mix (b (ix2 ⟨16 + i.val / 2, by omega⟩ o))) - half i.val (z (ix2 0 o))) * half i.val (s (ix2 0 o)) := by
  unfold k0_pay8 k0_pay6 k0_pay7 k0_pay4
  simp only [shapeCast_self]
  show (_ - _) * _ = _
  rw [bitcast_half, bitcast_half, bitcast_half, broadcastTo_1b_ab_apply, broadcastTo_1b_ab_apply, high_rows]

/-- One output tile: the two products added. -/
theorem pay2_apply (a : Vec Ideal S512x2816 .bf16) (w : Vec Ideal S2816x512 .bf16) (t : Vec Ideal S512x256 .bf16)
    (v : Vec Ideal S256x512 .bf16) (r o : Fin 512) :
    k0_pay2 (F := Ideal) a w t v (ix2 r o) = (∑ k : Fin 2816, a (ix2 r k) * w (ix2 k o)) + ∑ k : Fin 256, t (ix2 r k) * v (ix2 k o) := by
  unfold k0_pay2
  simp only [shapeCast_self]
  have h0 : ∀ j, (constant (F := Ideal) S512x512 .f32 0x00000000#32) j = (0 : EReal) := fun j => Ideal.ofBits_zero_f32
  have e1 := Ideal.matmul_plain_apply (φ₁ := .bf16) (φ₂ := .bf16) (M := 512) (K := 2816) (N := 512) none a w (constant (F := Ideal) S512x512 .f32 0x00000000#32) r o
  have e2 := Ideal.matmul_plain_apply (φ₁ := .bf16) (φ₂ := .bf16) (M := 512) (K := 256) (N := 512) none t v (constant (F := Ideal) S512x512 .f32 0x00000000#32) r o
  rw [h0, zero_add] at e1 e2
  exact congrArg₂ (· + ·) e1 e2

theorem pay3_eq : k0_pay3 (F := Ideal) = k0_pay2 := rfl
theorem pay14_eq : k0_pay14 (F := Ideal) = k0_pay2 := rfl
theorem pay15_eq : k0_pay15 (F := Ideal) = k0_pay2 := rfl
theorem pay18_eq : k0_pay18 (F := Ideal) = k0_pay2 := rfl
theorem pay19_eq : k0_pay19 (F := Ideal) = k0_pay2 := rfl
theorem pay20_eq : k0_pay20 (F := Ideal) = k0_pay2 := rfl
theorem pay21_eq : k0_pay21 (F := Ideal) = k0_pay2 := rfl
theorem pay17_eq (a : Vec Ideal S512x2816 .bf16) (w : Vec Ideal S2816x512 .bf16) (t : Vec Ideal S512x256 .bf16)
    (v : Vec Ideal S256x512 .bf16) : k0_pay17 (F := Ideal) (k0_pay16 (F := Ideal) a w) t v = k0_pay2 a w t v := rfl
theorem pay1_eq (a : Vec Ideal S512x2816 .bf16) (w : Vec Ideal S2816x512 .bf16) (t : Vec Ideal S512x256 .bf16)
    (v : Vec Ideal S256x512 .bf16) :
    k0_pay1 (F := Ideal) (k0_pay22 (F := Ideal) a w) t v (constant S512x512 .f32 0x00000000#32) = k0_pay2 a w t v := rfl

/-- A tile of the output block: columns `c` to `c + 511`. -/
theorem tile_apply (x0 : Vec Ideal S512x2880 .bf16) (T : Vec Ideal S512x256 .bf16) (W : Vec Ideal S3072x5120 .bf16) (c : ℕ)
    (inbx : ∀ a, (![0, 0] : Fin 2 → ℕ) a + (![512, 2816] : Fin 2 → ℕ) a ≤ S512x2880.size a)
    (inbA : ∀ a, (![0, c] : Fin 2 → ℕ) a + (![2816, 512] : Fin 2 → ℕ) a ≤ S3072x5120.size a)
    (inbB : ∀ a, (![2816, c] : Fin 2 → ℕ) a + (![256, 512] : Fin 2 → ℕ) a ≤ S3072x5120.size a)
    (inbO : ∀ a, (![0, c] : Fin 2 → ℕ) a + (![512, 512] : Fin 2 → ℕ) a ≤ S512x5120.size a)
    (x : S512x512.Idx) :
    k0_pay2 (F := Ideal) (View.ld (S := S512x2880) x0 (Rect.unit ![0, 0] ![512, 2816] inbx))
        (View.ld (S := S3072x5120) W (Rect.unit ![0, c] ![2816, 512] inbA)) T
        (View.ld (S := S3072x5120) W (Rect.unit ![2816, c] ![256, 512] inbB)) x
      = blockOf x0 T W ((Rect.unit (s := S512x5120) ![0, c] ![512, 512] inbO).emb x) := by
  have hc : c + 512 ≤ 5120 := inbO 1
  obtain ⟨r, o, rfl⟩ : ∃ r o : Fin 512, x = ix2 r o := ⟨x 0, x 1, eq_ix2 x⟩
  rw [pay2_apply]
  have h1 : ∀ k : Fin 2816, View.ld (S := S512x2880) x0 (Rect.unit ![0, 0] ![512, 2816] inbx) (ix2 r k)
      = x0 (ix2 r ⟨k.val, by omega⟩) := fun k => by
    refine congrArg x0 (funext fun a => Fin.ext ?_)
    match a with
    | ⟨0, _⟩ => show 0 + 1 * r.val = r.val; omega
    | ⟨1, _⟩ => show 0 + 1 * k.val = k.val; omega
  have h2 : ∀ k : Fin 2816, View.ld (S := S3072x5120) W (Rect.unit ![0, c] ![2816, 512] inbA) (ix2 k o)
      = W (ix2 ⟨k.val, by omega⟩ ⟨c + o.val, by omega⟩) := fun k => by
    refine congrArg W (funext fun a => Fin.ext ?_)
    match a with
    | ⟨0, _⟩ => show 0 + 1 * k.val = k.val; omega
    | ⟨1, _⟩ => show c + 1 * o.val = c + o.val; omega
  have h3 : ∀ k : Fin 256, View.ld (S := S3072x5120) W (Rect.unit ![2816, c] ![256, 512] inbB) (ix2 k o)
      = W (ix2 ⟨2816 + k.val, by omega⟩ ⟨c + o.val, by omega⟩) := fun k => by
    refine congrArg W (funext fun a => Fin.ext ?_)
    match a with
    | ⟨0, _⟩ => show 2816 + 1 * k.val = 2816 + k.val; omega
    | ⟨1, _⟩ => show c + 1 * o.val = c + o.val; omega
  have h4 : (Rect.unit (s := S512x5120) ![0, c] ![512, 512] inbO).emb (ix2 r o : S512x512.Idx) = ix2 r ⟨c + o.val, by omega⟩ := by
    funext a; apply Fin.ext
    match a with
    | ⟨0, _⟩ => show 0 + 1 * r.val = r.val; omega
    | ⟨1, _⟩ => show c + 1 * o.val = c + o.val; omega
  simp only [h1, h2, h3]
  rw [h4]
  rfl

/-- The tail scratch as the body reads it: the masked activations, with the first 64 columns stored over. -/
theorem tail_read {κ : Kind} {sp : Space} (v : View sig κ sp S512x256 .bf16) (x0 : Vec Ideal S512x2880 .bf16)
    (x1 : Vec Ideal S512x1 .i32) (x5 : Vec Ideal S2880x128 .bf16) (x6 : Vec Ideal S128x256 .bf16)
    (inb1 : ∀ a, (![0, 0] : Fin 2 → ℕ) a + (![512, 64] : Fin 2 → ℕ) a ≤ S512x256.size a)
    (inb2 : ∀ a, (![0, 0] : Fin 2 → ℕ) a + (![512, 256] : Fin 2 → ℕ) a ≤ S512x256.size a)
    (inbx : ∀ a, (![0, 2816] : Fin 2 → ℕ) a + (![512, 64] : Fin 2 → ℕ) a ≤ S512x2880.size a) :
    v.readCov (Val := Elt Ideal) [⟨Rect.unit ![0, 0] ![512, 64] inb1,
          k0_pay13 (F := Ideal) (k0_pay12 (F := Ideal) (View.ld (S := S512x2880) x0 (Rect.unit ![0, 2816] ![512, 64] inbx)))⟩,
        ⟨Rect.unit ![0, 0] ![512, 256] inb2, k0_pay11 (F := Ideal) x0 x5 x6 x1⟩]
      (Rect.unit ![0, 0] ![512, 256] inb2).toLoadRect = tailV x0 x1 x5 x6 := by
  funext y
  have hy : (Rect.unit (s := S512x256) ![0, 0] ![512, 256] inb2).toLoadRect.idx y = y := by
    funext a; apply Fin.ext
    match a with
    | ⟨0, _⟩ => show 0 + 1 * (y 0).val = (y 0).val; omega
    | ⟨1, _⟩ => show 0 + 1 * (y 1).val = (y 1).val; omega
  show v.read (Elt Ideal) (v.writes (Elt Ideal) v.junk _) ((Rect.unit (s := S512x256) ![0, 0] ![512, 256] inb2).toLoadRect.idx y) = _
  rw [hy]
  have b0 : (y (0 : Fin 2)).val < 512 := (y (0 : Fin 2)).isLt
  have b1 : (y (1 : Fin 2)).val < 256 := (y (1 : Fin 2)).isLt
  by_cases h : (y (1 : Fin 2)).val < 64
  · refine (View.read_writes_cons_unit_of_mem (Val := Elt Ideal) (off' := ![0, 0]) v v.junk inb1 _ _ y
      (ix2 (⟨(y (0 : Fin 2)).val, b0⟩ : Fin 512) (⟨(y (1 : Fin 2)).val, h⟩ : Fin 64)) rfl
      (Fin.forall_fin_two.mpr ⟨(Nat.zero_add _).symm, (Nat.zero_add _).symm⟩)).trans ?_
    unfold k0_pay13 k0_pay12 tailV
    simp only [shapeCast_self]
    rw [dif_pos h]
    refine congrArg x0 (funext fun a => Fin.ext ?_)
    match a with
    | ⟨0, _⟩ => show 0 + 1 * (y 0).val = (y 0).val; omega
    | ⟨1, _⟩ => show 2816 + 1 * (y 1).val = 2816 + (y 1).val; omega
  · refine (View.read_writes_cons_unit_of_not_mem (Val := Elt Ideal) (off' := ![0, 0]) v v.junk inb1 _ _ y rfl (1 : Fin 2)
      (Or.inr (by show 0 + 64 ≤ (y (1 : Fin 2)).val; omega))).trans ?_
    refine (View.read_writes_cons_unit_of_mem (Val := Elt Ideal) (off' := ![0, 0]) v v.junk inb2 _ _ y y rfl
      (Fin.forall_fin_two.mpr ⟨(Nat.zero_add _).symm, (Nat.zero_add _).symm⟩)).trans ?_
    unfold tailV
    rw [dif_neg h]

theorem zero_off : (![0, 0] : Fin 2 → ℕ) = fun _ => 0 := by funext a; fin_cases a <;> rfl

theorem ld_S512x2880 {e : EltTy} (X : Vec Ideal S512x2880 e) (inb : ∀ a, (![0, 0] : Fin 2 → ℕ) a + (![512, 2880] : Fin 2 → ℕ) a ≤ S512x2880.size a) :
    View.ld (S := S512x2880) X (Rect.unit ![0, 0] ![512, 2880] inb) = X :=
  View.ld_unit_zero (S := S512x2880) zero_off inb X

theorem ld_S512x1 {e : EltTy} (X : Vec Ideal S512x1 e) (inb : ∀ a, (![0, 0] : Fin 2 → ℕ) a + (![512, 1] : Fin 2 → ℕ) a ≤ S512x1.size a) :
    View.ld (S := S512x1) X (Rect.unit ![0, 0] ![512, 1] inb) = X :=
  View.ld_unit_zero (S := S512x1) zero_off inb X

theorem ld_S2880x128 {e : EltTy} (X : Vec Ideal S2880x128 e) (inb : ∀ a, (![0, 0] : Fin 2 → ℕ) a + (![2880, 128] : Fin 2 → ℕ) a ≤ S2880x128.size a) :
    View.ld (S := S2880x128) X (Rect.unit ![0, 0] ![2880, 128] inb) = X :=
  View.ld_unit_zero (S := S2880x128) zero_off inb X

theorem ld_S128x256 {e : EltTy} (X : Vec Ideal S128x256 e) (inb : ∀ a, (![0, 0] : Fin 2 → ℕ) a + (![128, 256] : Fin 2 → ℕ) a ≤ S128x256.size a) :
    View.ld (S := S128x256) X (Rect.unit ![0, 0] ![128, 256] inb) = X :=
  View.ld_unit_zero (S := S128x256) zero_off inb X

theorem ld_S80x5120 {e : EltTy} (X : Vec Ideal S80x5120 e) (inb : ∀ a, (![0, 0] : Fin 2 → ℕ) a + (![80, 5120] : Fin 2 → ℕ) a ≤ S80x5120.size a) :
    View.ld (S := S80x5120) X (Rect.unit ![0, 0] ![80, 5120] inb) = X :=
  View.ld_unit_zero (S := S80x5120) zero_off inb X

/-- The store of a tile of the output block. -/
def tilePiece (x0 : Vec Ideal S512x2880 .bf16) (T : Vec Ideal S512x256 .bf16) (W : Vec Ideal S3072x5120 .bf16) (c : ℕ)
    (hc : c + 512 ≤ 5120) : View.Piece (Elt Ideal) S512x5120 .bf16 :=
  ⟨Rect.unit ![0, c] ![512, 512] (Fin.forall_fin_two.mpr ⟨by show 0 + 512 ≤ 512; omega, hc⟩),
    k0_pay2 (F := Ideal) (View.ld (S := S512x2880) x0 (Rect.unit ![0, 0] ![512, 2816] inb_S512x2880_S512x2816_0_0))
        (View.ld (S := S3072x5120) W (Rect.unit ![0, c] ![2816, 512] (Fin.forall_fin_two.mpr ⟨by show 0 + 2816 ≤ 3072; omega, hc⟩))) T
        (View.ld (S := S3072x5120) W (Rect.unit ![2816, c] ![256, 512] (Fin.forall_fin_two.mpr ⟨by show 2816 + 256 ≤ 3072; omega, hc⟩)))⟩

/-- A stored tile is the output block under its columns. -/
theorem tilePiece_apply (x0 : Vec Ideal S512x2880 .bf16) (T : Vec Ideal S512x256 .bf16) (W : Vec Ideal S3072x5120 .bf16) (c : ℕ)
    (hc : c + 512 ≤ 5120) (x : (tilePiece x0 T W c hc).1.shape.Idx) :
    (tilePiece x0 T W c hc).2 x = blockOf x0 T W ((tilePiece x0 T W c hc).1.emb x) :=
  tile_apply x0 T W c _ _ _ (Fin.forall_fin_two.mpr ⟨by show 0 + 512 ≤ 512; omega, hc⟩) x

/-- The ten tiles stored: the output window holds the point's block. -/
theorem block_read {κ : Kind} {sp : Space} (v : View sig κ sp S512x5120 .bf16) (f : v.ty.Contents (Elt Ideal))
    (x0 : Vec Ideal S512x2880 .bf16) (T : Vec Ideal S512x256 .bf16) (W : Vec Ideal S3072x5120 .bf16) :
    v.read (Elt Ideal) (v.writes (Elt Ideal) f [tilePiece x0 T W 4608 (by omega), tilePiece x0 T W 4096 (by omega), tilePiece x0 T W 3584 (by omega), tilePiece x0 T W 3072 (by omega), tilePiece x0 T W 2560 (by omega), tilePiece x0 T W 2048 (by omega), tilePiece x0 T W 1536 (by omega), tilePiece x0 T W 1024 (by omega), tilePiece x0 T W 512 (by omega), tilePiece x0 T W 0 (by omega)]) = blockOf x0 T W := by
  funext y
  refine View.read_writes_apply_of_pieces v f (blockOf x0 T W) _ ?_ y ?_
  · simp only [List.forall_mem_cons]
    refine ⟨tilePiece_apply _ _ _ _ _, tilePiece_apply _ _ _ _ _, tilePiece_apply _ _ _ _ _, tilePiece_apply _ _ _ _ _, tilePiece_apply _ _ _ _ _, tilePiece_apply _ _ _ _ _, tilePiece_apply _ _ _ _ _, tilePiece_apply _ _ _ _ _, tilePiece_apply _ _ _ _ _, tilePiece_apply _ _ _ _ _, fun _ h => absurd h List.not_mem_nil⟩
  · have b0 : (y (0 : Fin 2)).val < 512 := (y (0 : Fin 2)).isLt
    have b1 : (y (1 : Fin 2)).val < 5120 := (y (1 : Fin 2)).isLt
    have key : ∀ c (hc : c + 512 ≤ 5120), c ≤ (y (1 : Fin 2)).val → (y (1 : Fin 2)).val < c + 512 →
        y ∈ (tilePiece x0 T W c hc).1.set := fun c hc h1 h2 => by
      unfold tilePiece
      rw [Rect.mem_set_unit]
      exact Fin.forall_fin_two.mpr ⟨⟨Nat.zero_le _, by show _ < 0 + 512; omega⟩, ⟨h1, h2⟩⟩
    obtain ⟨j, hj, h1, h2⟩ : ∃ j, j < 10 ∧ 512 * j ≤ (y (1 : Fin 2)).val ∧ (y (1 : Fin 2)).val < 512 * j + 512 :=
      ⟨(y (1 : Fin 2)).val / 512, by omega, by omega, by omega⟩
    refine ⟨tilePiece x0 T W (512 * j) (by omega), ?_, key _ _ h1 h2⟩
    interval_cases j <;> simp only [Nat.reduceMul, List.mem_cons, true_or, or_true]

end Cert.KernelIdeal.Hand

end
-- ==== Proof.Fill.lean ====
/- The first point fills the weight scratch: 45 trips store two slabs of 32 dequantized rows each, then the adapter rows and
   the rows of zeros. Read back, the scratch is `weightV`. -/
module

public import proofs.«01_k».proof.Proof.Values
public import Idealize.ShloMosaic.Lib.IdealHost

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.Sem

/-! ## The trips' offsets in closed form -/

theorem trips_eq : k0_t1_loop.trips = 45 := by decide

/-- The row of codes a trip starts at. -/
theorem off1_eq (k : Fin k0_t1_loop.trips) : k0_off1 k = ![32 * k.val, 0] := by
  have r_k : k.val < 45 := Nat.lt_of_lt_of_le k.isLt k0_t1_abs.2.1
  have h_c0 : Affine.IsInt 0#32 (0) := Affine.ofNat _ (by omega)
  have h_c1 : Affine.IsInt 1#32 (1) := Affine.ofNat _ (by omega)
  have h_i : Affine.IsInt _ ((k.val : Int)) := Affine.iv h_c0 h_c1 k.val (by omega)
  have h_c32 : Affine.IsInt 32#32 (32) := Affine.ofNat _ (by omega)
  have h : Affine.IsInt _ (32 * (k.val : Int)) := Affine.muli h_i h_c32 (by omega)
  have h' : Affine.IsInt _ (32 * (k.val : Int)) := Affine.indexCast h
  exact congrArg (fun n : ℕ => (![n, 0] : Fin 2 → ℕ)) (Affine.nat_eq h' (32 * k.val) (by push_cast; rfl))

/-- The group a slab of a trip dequantizes. -/
theorem off2_eq (k : Fin k0_t1_loop.trips) (r : Fin 2) : k0_off2 k (BitVec.ofNat 32 r.val) = ![2 * k.val + r.val, 0] := by
  have r_k : k.val < 45 := Nat.lt_of_lt_of_le k.isLt k0_t1_abs.2.1
  have r_r : r.val < 2 := r.isLt
  have h_r : Affine.IsInt (BitVec.ofNat 32 r.val) ((r.val : Int)) := Affine.ofNat _ (by omega)
  have h_c0 : Affine.IsInt 0#32 (0) := Affine.ofNat _ (by omega)
  have h_c1 : Affine.IsInt 1#32 (1) := Affine.ofNat _ (by omega)
  have h_i : Affine.IsInt _ ((k.val : Int)) := Affine.iv h_c0 h_c1 k.val (by omega)
  have h_c2 : Affine.IsInt 2#32 (2) := Affine.ofNat _ (by omega)
  have h2 : Affine.IsInt _ (2 * (k.val : Int)) := Affine.muli h_i h_c2 (by omega)
  have h3 : Affine.IsInt _ (2 * (k.val : Int) + (r.val : Int)) := Affine.addi h2 h_r (by omega)
  have h' : Affine.IsInt _ (2 * (k.val : Int) + (r.val : Int)) := Affine.indexCast h3
  exact congrArg (fun n : ℕ => (![n, 0] : Fin 2 → ℕ)) (Affine.nat_eq h' (2 * k.val + r.val) (by push_cast; rfl))

/-- The row of the scratch a slab of a trip is stored at. -/
theorem off3_eq (k : Fin k0_t1_loop.trips) (r : Fin 2) : k0_off3 k (BitVec.ofNat 32 r.val) = ![64 * k.val + 32 * r.val, 0] := by
  have r_k : k.val < 45 := Nat.lt_of_lt_of_le k.isLt k0_t1_abs.2.1
  have r_r : r.val < 2 := r.isLt
  have h_r : Affine.IsInt (BitVec.ofNat 32 r.val) ((r.val : Int)) := Affine.ofNat _ (by omega)
  have h_c0 : Affine.IsInt 0#32 (0) := Affine.ofNat _ (by omega)
  have h_c1 : Affine.IsInt 1#32 (1) := Affine.ofNat _ (by omega)
  have h_i : Affine.IsInt _ ((k.val : Int)) := Affine.iv h_c0 h_c1 k.val (by omega)
  have h_c2 : Affine.IsInt 2#32 (2) := Affine.ofNat _ (by omega)
  have h2 : Affine.IsInt _ (2 * (k.val : Int)) := Affine.muli h_i h_c2 (by omega)
  have h3 : Affine.IsInt _ (2 * (k.val : Int) + (r.val : Int)) := Affine.addi h2 h_r (by omega)
  have h_c32 : Affine.IsInt 32#32 (32) := Affine.ofNat _ (by omega)
  have h4 : Affine.IsInt _ (64 * (k.val : Int) + 32 * (r.val : Int)) := Affine.muli h3 h_c32 (by omega)
  have h' : Affine.IsInt _ (64 * (k.val : Int) + 32 * (r.val : Int)) := Affine.indexCast h4
  exact congrArg (fun n : ℕ => (![n, 0] : Fin 2 → ℕ)) (Affine.nat_eq h' (64 * k.val + 32 * r.val) (by push_cast; rfl))

/-! ## A slab -/

theorem half_congr {r r' : ℕ} (h : r % 2 = r' % 2) (w : BitVec 32) : half r w = half r' w := by unfold half; rw [h]

/-- A load of whole rows, at an index. -/
theorem ld_rows {m n : ℕ} {e : EltTy} (X : Vec Ideal ⟨2, ![m, n]⟩ e) (w c : ℕ) (off : Fin 2 → ℕ) (hoff : off = ![c, 0])
    (inb : ∀ a, off a + (![w, n] : Fin 2 → ℕ) a ≤ (![m, n] : Fin 2 → ℕ) a) (i : Fin w) (o : Fin n) (h : c + i.val < m) :
    View.ld (S := ⟨2, ![m, n]⟩) X (Rect.unit off ![w, n] inb) (ix2 i o) = X (ix2 ⟨c + i.val, h⟩ o) := by
  subst hoff
  refine congrArg X (funext fun a => Fin.ext ?_)
  match a with
  | ⟨0, _⟩ => show c + 1 * i.val = c + i.val; omega
  | ⟨1, _⟩ => show 0 + 1 * o.val = o.val; omega

/-- Where a piece of whole rows puts an index. -/
theorem emb_rows {m n : ℕ} (w c : ℕ) (off : Fin 2 → ℕ) (hoff : off = ![c, 0])
    (inb : ∀ a, off a + (![w, n] : Fin 2 → ℕ) a ≤ (![m, n] : Fin 2 → ℕ) a) (i : Fin w) (o : Fin n) (h : c + i.val < m) :
    (Rect.unit (s := ⟨2, ![m, n]⟩) off ![w, n] inb).emb (ix2 i o : (⟨2, ![w, n]⟩ : Shape).Idx) = ix2 ⟨c + i.val, h⟩ o := by
  subst hoff
  funext a; apply Fin.ext
  match a with
  | ⟨0, _⟩ => show c + 1 * i.val = c + i.val; omega
  | ⟨1, _⟩ => show 0 + 1 * o.val = o.val; omega

section Slabs

variable (x2 : Vec Ideal S1440x5120 .i8) (x3 x4 : Vec Ideal S90x5120 .i32) (x7 : Vec Ideal S80x5120 .bf16)

theorem weightV_deq (r : ℕ) (h : r < 3072) (hr : r < 2880) (o : Fin 5120) :
    weightV x2 x3 x4 x7 (ix2 ⟨r, h⟩ o) = deqV x2 x3 x4 r hr o := dif_pos hr

theorem weightV_lora (r : ℕ) (h : r < 3072) (hr : ¬r < 2880) (hr' : r < 2960) (o : Fin 5120) :
    weightV x2 x3 x4 x7 (ix2 ⟨r, h⟩ o) = x7 (ix2 ⟨r - 2880, by omega⟩ o) := (dif_neg hr).trans (dif_pos hr')

theorem weightV_zero (r : ℕ) (h : r < 3072) (hr : ¬r < 2960) (o : Fin 5120) :
    weightV x2 x3 x4 x7 (ix2 ⟨r, h⟩ o) = 0 := (dif_neg (fun h' : r < 2880 => hr (by omega))).trans (dif_neg hr)

/-- The first slab of trip `k` holds rows `64k` to `64k + 31`. -/
theorem slab_low (k : ℕ) (hk : k < 45) (off1 off2 off3 : Fin 2 → ℕ) (h1 : off1 = ![32 * k, 0]) (h2 : off2 = ![2 * k, 0])
    (h3 : off3 = ![64 * k, 0]) (inb1 : ∀ a, off1 a + (![32, 5120] : Fin 2 → ℕ) a ≤ S1440x5120.size a)
    (inb2 inb2' : ∀ a, off2 a + (![1, 5120] : Fin 2 → ℕ) a ≤ S90x5120.size a)
    (inb3 : ∀ a, off3 a + (![32, 5120] : Fin 2 → ℕ) a ≤ S3072x5120.size a) (x : S32x5120.Idx) :
    k0_pay5 (F := Ideal) (View.ld (S := S1440x5120) x2 (Rect.unit off1 ![32, 5120] inb1))
        (View.ld (S := S90x5120) x4 (Rect.unit off2 ![1, 5120] inb2)) (View.ld (S := S90x5120) x3 (Rect.unit off2 ![1, 5120] inb2')) x
      = weightV x2 x3 x4 x7 ((Rect.unit (s := S3072x5120) off3 ![32, 5120] inb3).emb x) := by
  obtain ⟨i, o, rfl⟩ : ∃ (i : Fin 32) (o : Fin 5120), x = ix2 i o := ⟨x 0, x 1, eq_ix2 x⟩
  rw [pay5_apply, emb_rows 32 (64 * k) off3 h3 inb3 i o (by omega), weightV_deq x2 x3 x4 x7 _ _ (by omega)]
  rw [ld_rows x2 32 (32 * k) off1 h1 inb1 ⟨i.val / 2, by omega⟩ o (by show 32 * k + i.val / 2 < 1440; omega),
    ld_rows x4 1 (2 * k) off2 h2 inb2 0 o (by show 2 * k + 0 < 90; omega),
    ld_rows x3 1 (2 * k) off2 h2 inb2' 0 o (by show 2 * k + 0 < 90; omega)]
  unfold deqV
  have e1 : (⟨32 * k + i.val / 2, by omega⟩ : Fin 1440) = ⟨(64 * k + i.val) / 2, by omega⟩ := Fin.ext (by show 32 * k + i.val / 2 = (64 * k + i.val) / 2; omega)
  have e2 : (⟨2 * k + 0, by omega⟩ : Fin 90) = ⟨(64 * k + i.val) / 32, by omega⟩ := Fin.ext (by show 2 * k + 0 = (64 * k + i.val) / 32; omega)
  simp only [half_congr (show i.val % 2 = (64 * k + i.val) % 2 by omega)]
  exact congrArg₂ (· * ·) (congrArg₂ (· - ·) (congrArg (fun j => half (64 * k + i.val) (mix (x2 (ix2 j o)))) e1)
    (congrArg (fun j => half (64 * k + i.val) (x4 (ix2 j o))) e2)) (congrArg (fun j => half (64 * k + i.val) (x3 (ix2 j o))) e2)

/-- The second slab of trip `k` holds rows `64k + 32` to `64k + 63`. -/
theorem slab_high (k : ℕ) (hk : k < 45) (off1 off2 off3 : Fin 2 → ℕ) (h1 : off1 = ![32 * k, 0]) (h2 : off2 = ![2 * k + 1, 0])
    (h3 : off3 = ![64 * k + 32, 0]) (inb1 : ∀ a, off1 a + (![32, 5120] : Fin 2 → ℕ) a ≤ S1440x5120.size a)
    (inb2 inb2' : ∀ a, off2 a + (![1, 5120] : Fin 2 → ℕ) a ≤ S90x5120.size a)
    (inb3 : ∀ a, off3 a + (![32, 5120] : Fin 2 → ℕ) a ≤ S3072x5120.size a) (x : S32x5120.Idx) :
    k0_pay8 (F := Ideal) (k0_pay6 (F := Ideal) (View.ld (S := S1440x5120) x2 (Rect.unit off1 ![32, 5120] inb1))) k0_pay7
        (View.ld (S := S90x5120) x4 (Rect.unit off2 ![1, 5120] inb2)) (View.ld (S := S90x5120) x3 (Rect.unit off2 ![1, 5120] inb2')) x
      = weightV x2 x3 x4 x7 ((Rect.unit (s := S3072x5120) off3 ![32, 5120] inb3).emb x) := by
  obtain ⟨i, o, rfl⟩ : ∃ (i : Fin 32) (o : Fin 5120), x = ix2 i o := ⟨x 0, x 1, eq_ix2 x⟩
  rw [pay8_apply, emb_rows 32 (64 * k + 32) off3 h3 inb3 i o (by omega), weightV_deq x2 x3 x4 x7 _ _ (by omega)]
  rw [ld_rows x2 32 (32 * k) off1 h1 inb1 ⟨16 + i.val / 2, by omega⟩ o (by show 32 * k + (16 + i.val / 2) < 1440; omega),
    ld_rows x4 1 (2 * k + 1) off2 h2 inb2 0 o (by show 2 * k + 1 + 0 < 90; omega),
    ld_rows x3 1 (2 * k + 1) off2 h2 inb2' 0 o (by show 2 * k + 1 + 0 < 90; omega)]
  unfold deqV
  have e1 : (⟨32 * k + (16 + i.val / 2), by omega⟩ : Fin 1440) = ⟨(64 * k + 32 + i.val) / 2, by omega⟩ := Fin.ext (by show 32 * k + (16 + i.val / 2) = (64 * k + 32 + i.val) / 2; omega)
  have e2 : (⟨2 * k + 1 + 0, by omega⟩ : Fin 90) = ⟨(64 * k + 32 + i.val) / 32, by omega⟩ := Fin.ext (by show 2 * k + 1 + 0 = (64 * k + 32 + i.val) / 32; omega)
  simp only [half_congr (show i.val % 2 = (64 * k + 32 + i.val) % 2 by omega)]
  exact congrArg₂ (· * ·) (congrArg₂ (· - ·) (congrArg (fun j => half (64 * k + 32 + i.val) (mix (x2 (ix2 j o)))) e1)
    (congrArg (fun j => half (64 * k + 32 + i.val) (x4 (ix2 j o))) e2)) (congrArg (fun j => half (64 * k + 32 + i.val) (x3 (ix2 j o))) e2)

/-- The adapter rows stored under the dequantized ones. -/
theorem adapter_rows (inb3 : ∀ a, (![2880, 0] : Fin 2 → ℕ) a + (![80, 5120] : Fin 2 → ℕ) a ≤ S3072x5120.size a) (x : S80x5120.Idx) :
    k0_pay9 (F := Ideal) x7 x = weightV x2 x3 x4 x7 ((Rect.unit (s := S3072x5120) ![2880, 0] ![80, 5120] inb3).emb x) := by
  obtain ⟨i, o, rfl⟩ : ∃ (i : Fin 80) (o : Fin 5120), x = ix2 i o := ⟨x 0, x 1, eq_ix2 x⟩
  unfold k0_pay9
  simp only [shapeCast_self]
  rw [emb_rows 80 2880 _ rfl inb3 i o (by omega), weightV_lora x2 x3 x4 x7 _ _ (by omega) (by omega)]
  symm
  exact congrArg (fun j => x7 (ix2 j o)) (Fin.ext (by show 2880 + i.val - 2880 = i.val; omega))

/-- The rows of zeros at the end. -/
theorem zero_rows (inb3 : ∀ a, (![2960, 0] : Fin 2 → ℕ) a + (![112, 5120] : Fin 2 → ℕ) a ≤ S3072x5120.size a) (x : S112x5120.Idx) :
    k0_pay10 (F := Ideal) x = weightV x2 x3 x4 x7 ((Rect.unit (s := S3072x5120) ![2960, 0] ![112, 5120] inb3).emb x) := by
  obtain ⟨i, o, rfl⟩ : ∃ (i : Fin 112) (o : Fin 5120), x = ix2 i o := ⟨x 0, x 1, eq_ix2 x⟩
  unfold k0_pay10
  simp only [shapeCast_self]
  rw [emb_rows 112 2960 _ rfl inb3 i o (by omega), weightV_zero x2 x3 x4 x7 _ _ (by omega)]
  exact Ideal.ofBits_zero_bf16

end Slabs

/-! ## The trips -/

section Trips

variable (𝒱 : Variants) (c : Dev nD) (bd : Option 𝒱.V) (i : grid0.Coords) (arg1 : Memref sig .tc .vmem S512x2880 .bf16) (harg1 : arg1.IsWhole) (arg2 : Memref sig .tc .vmem S512x1 .i32) (harg2 : arg2.IsWhole) (arg3 : Memref sig .tc .vmem S1440x5120 .i8) (harg3 : arg3.IsWhole) (arg4 : Memref sig .tc .vmem S90x5120 .i32) (harg4 : arg4.IsWhole) (arg5 : Memref sig .tc .vmem S90x5120 .i32) (harg5 : arg5.IsWhole) (arg6 : Memref sig .tc .vmem S2880x128 .bf16) (harg6 : arg6.IsWhole) (arg7 : Memref sig .tc .vmem S128x256 .bf16) (harg7 : arg7.IsWhole) (arg8 : Memref sig .tc .vmem S80x5120 .bf16) (harg8 : arg8.IsWhole) (arg9 : Memref sig .tc .vmem S512x5120 .bf16) (harg9 : arg9.IsWhole) (arg10 : Memref sig .tc .vmem S3072x5120 .bf16) (harg10 : arg10.IsWhole) (arg11 : Memref sig .tc .vmem S512x256 .bf16) (harg11 : arg11.IsWhole) (k0_h1 : k0_cond1 i = 1#1)
  (x2 : Vec Ideal S1440x5120 .i8) (x3 x4 : Vec Ideal S90x5120 .i32) (x7 : Vec Ideal S80x5120 .bf16)

/-- What a trip stores: its two slabs, the second in front. -/
theorem trip_pieces (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) (harg5.unread x4) k
      = [⟨Rect.unit (s := S3072x5120) (k0_off3 k 1#32) ![32, 5120] (k0_off3_inb i k k0_h1 1),
            k0_pay8 (F := Ideal) (k0_pay6 (F := Ideal) (View.ld (S := S1440x5120) x2 (Rect.unit (k0_off1 k) ![32, 5120] (k0_off1_inb i k k0_h1)))) k0_pay7
              (View.ld (S := S90x5120) x4 (Rect.unit (k0_off2 k 1#32) ![1, 5120] (k0_off2_inb i k k0_h1 1)))
              (View.ld (S := S90x5120) x3 (Rect.unit (k0_off2 k 1#32) ![1, 5120] (k0_off2_inb i k k0_h1 1)))⟩,
          ⟨Rect.unit (s := S3072x5120) (k0_off3 k 0#32) ![32, 5120] (k0_off3_inb i k k0_h1 0),
            k0_pay5 (F := Ideal) (View.ld (S := S1440x5120) x2 (Rect.unit (k0_off1 k) ![32, 5120] (k0_off1_inb i k k0_h1)))
              (View.ld (S := S90x5120) x4 (Rect.unit (k0_off2 k 0#32) ![1, 5120] (k0_off2_inb i k k0_h1 0)))
              (View.ld (S := S90x5120) x3 (Rect.unit (k0_off2 k 0#32) ![1, 5120] (k0_off2_inb i k k0_h1 0)))⟩] := by
  delta tripL_k0_t1 trip_k0_t1
  dsimp only
  sl_unfold_words
  simp only [View.readAt_eq_ld, harg3.read_unread, harg4.read_unread, harg5.read_unread]

/-- The stores of the trips before `n` are `weightV` where they land, and cover the first `64n` rows. -/
theorem trips_fill (n : ℕ) : n ≤ 45 →
    (∀ p ∈ pb_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) (harg5.unread x4) n, ∀ x, p.2 x = weightV x2 x3 x4 x7 (p.1.emb x))
      ∧ ∀ y : S3072x5120.Idx, (y (0 : Fin 2)).val < 64 * n →
        ∃ p ∈ pb_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) (harg5.unread x4) n, y ∈ p.1.set := by
  induction n with
  | zero => exact fun _ => ⟨fun p hp => absurd hp List.not_mem_nil, fun y hy => absurd hy (by omega)⟩
  | succ n ih =>
    intro hn
    obtain ⟨ihG, ihC⟩ := ih (by omega)
    have hk : n < k0_t1_loop.trips := by rw [trips_eq]; omega
    have e := pb_k0_t1_succ (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) (harg5.unread x4) ⟨n, hk⟩
    rw [trip_pieces] at e
    have e' : pb_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) (harg5.unread x4) (n + 1) = _ := e
    rw [e']
    have o1 := off1_eq ⟨n, hk⟩
    have o20 : k0_off2 ⟨n, hk⟩ 0#32 = ![2 * n, 0] := off2_eq ⟨n, hk⟩ 0
    have o21 : k0_off2 ⟨n, hk⟩ 1#32 = ![2 * n + 1, 0] := off2_eq ⟨n, hk⟩ 1
    have o30 : k0_off3 ⟨n, hk⟩ 0#32 = ![64 * n, 0] := off3_eq ⟨n, hk⟩ 0
    have o31 : k0_off3 ⟨n, hk⟩ 1#32 = ![64 * n + 32, 0] := off3_eq ⟨n, hk⟩ 1
    constructor
    · simp only [List.cons_append, List.nil_append, List.forall_mem_cons]
      exact ⟨slab_high x2 x3 x4 x7 n (by omega) _ _ _ o1 o21 o31 _ _ _ _, slab_low x2 x3 x4 x7 n (by omega) _ _ _ o1 o20 o30 _ _ _ _, ihG⟩
    · intro y hy
      have b1 : (y (1 : Fin 2)).val < 5120 := (y (1 : Fin 2)).isLt
      by_cases hlo : (y (0 : Fin 2)).val < 64 * n
      · obtain ⟨p, hp, hy'⟩ := ihC y hlo
        exact ⟨p, List.mem_append_right _ hp, hy'⟩
      · by_cases hmid : (y (0 : Fin 2)).val < 64 * n + 32
        · refine ⟨_, List.mem_append_left _ (List.mem_cons_of_mem _ List.mem_cons_self), ?_⟩
          rw [Rect.mem_set_unit, o30]
          exact Fin.forall_fin_two.mpr ⟨⟨by show 64 * n ≤ _; omega, hmid⟩, ⟨Nat.zero_le _, by show _ < 0 + 5120; omega⟩⟩
        · refine ⟨_, List.mem_append_left _ List.mem_cons_self, ?_⟩
          rw [Rect.mem_set_unit, o31]
          exact Fin.forall_fin_two.mpr ⟨⟨by show 64 * n + 32 ≤ _; omega, by show _ < 64 * n + 32 + 32; omega⟩, ⟨Nat.zero_le _, by show _ < 0 + 5120; omega⟩⟩

/-- The filled scratch: the rows of zeros, the adapter rows and the 45 trips' slabs, read back. -/
theorem weight_read (v : View sig .tc .vmem S3072x5120 .bf16) (f : v.ty.Contents (Elt Ideal))
    (inb1 : ∀ a, (![2960, 0] : Fin 2 → ℕ) a + (![112, 5120] : Fin 2 → ℕ) a ≤ S3072x5120.size a)
    (inb2 : ∀ a, (![2880, 0] : Fin 2 → ℕ) a + (![80, 5120] : Fin 2 → ℕ) a ≤ S3072x5120.size a) :
    v.read (Elt Ideal) (v.writes (Elt Ideal) f
        (⟨Rect.unit (s := S3072x5120) ![2960, 0] ![112, 5120] inb1, k0_pay10 (F := Ideal)⟩
          :: ⟨Rect.unit (s := S3072x5120) ![2880, 0] ![80, 5120] inb2, k0_pay9 (F := Ideal) x7⟩
          :: pb_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) (harg5.unread x4) (Scf.trips (0#32) (Scalar.addi 0#32 45#32) 1#32))) = weightV x2 x3 x4 x7 := by
  obtain ⟨hG, hC⟩ := trips_fill 𝒱 c bd i arg1 harg1 arg2 harg2 arg3 harg3 arg4 harg4 arg5 harg5 arg6 harg6 arg7 harg7 arg8 harg8 arg9 harg9 arg10 harg10 arg11 harg11 k0_h1 x2 x3 x4 x7 45 (le_refl _)
  rw [show Scf.trips (0#32) (Scalar.addi 0#32 45#32) 1#32 = 45 from trips_eq]
  funext y
  have b0 : (y (0 : Fin 2)).val < 3072 := (y (0 : Fin 2)).isLt
  have b1 : (y (1 : Fin 2)).val < 5120 := (y (1 : Fin 2)).isLt
  refine View.read_writes_apply_of_pieces v f (weightV x2 x3 x4 x7) _ ?_ y ?_
  · simp only [List.forall_mem_cons]
    exact ⟨zero_rows x2 x3 x4 x7 _, adapter_rows x2 x3 x4 x7 _, hG⟩
  · by_cases h : (y (0 : Fin 2)).val < 2880
    · obtain ⟨p, hp, hy⟩ := hC y (by omega)
      exact ⟨p, List.mem_cons_of_mem _ (List.mem_cons_of_mem _ hp), hy⟩
    · by_cases h' : (y (0 : Fin 2)).val < 2960
      · refine ⟨_, List.mem_cons_of_mem _ List.mem_cons_self, ?_⟩
        rw [Rect.mem_set_unit]
        exact Fin.forall_fin_two.mpr ⟨⟨by show 2880 ≤ _; omega, by show _ < 2880 + 80; omega⟩, ⟨Nat.zero_le _, by show _ < 0 + 5120; omega⟩⟩
      · refine ⟨_, List.mem_cons_self, ?_⟩
        rw [Rect.mem_set_unit]
        exact Fin.forall_fin_two.mpr ⟨⟨by show 2960 ≤ _; omega, by show _ < 2960 + 112; omega⟩, ⟨Nat.zero_le _, by show _ < 0 + 5120; omega⟩⟩

end Trips

end Cert.KernelIdeal.Hand

end
-- ==== Proof.RunA.lean ====
/- The body run at the first point: it fills the weight scratch, then computes the point's block. -/
module

public import proofs.«01_k».proof.Proof.Fill
public import Idealize.ShloMosaic.PureOps.Ideal.Laws

@[expose] public section

set_option maxRecDepth 16384

noncomputable section

namespace Cert.KernelIdeal.Hand

open Cert.KernelIdeal.Gen Idealize.ShloMosaic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The first point: with the inputs at their contents, the body fills the weight scratch and leaves the point's output block
    over those weights in the output window. -/
theorem kernelRun0_A (c : Dev nD) (i : grid0.Coords) (arg1 : Memref sig .tc .vmem S512x2880 .bf16) (harg1 : arg1.IsWhole) (arg2 : Memref sig .tc .vmem S512x1 .i32) (harg2 : arg2.IsWhole) (arg3 : Memref sig .tc .vmem S1440x5120 .i8) (harg3 : arg3.IsWhole) (arg4 : Memref sig .tc .vmem S90x5120 .i32) (harg4 : arg4.IsWhole) (arg5 : Memref sig .tc .vmem S90x5120 .i32) (harg5 : arg5.IsWhole) (arg6 : Memref sig .tc .vmem S2880x128 .bf16) (harg6 : arg6.IsWhole) (arg7 : Memref sig .tc .vmem S128x256 .bf16) (harg7 : arg7.IsWhole) (arg8 : Memref sig .tc .vmem S80x5120 .bf16) (harg8 : arg8.IsWhole) (arg9 : Memref sig .tc .vmem S512x5120 .bf16) (harg9 : arg9.IsWhole) (arg10 : Memref sig .tc .vmem S3072x5120 .bf16) (harg10 : arg10.IsWhole) (arg11 : Memref sig .tc .vmem S512x256 .bf16) (harg11 : arg11.IsWhole) (hc0 : cond0_0 i)
    (x0 : Vec Ideal S512x2880 .bf16) (x1 : Vec Ideal S512x1 .i32) (x2 : Vec Ideal S1440x5120 .i8) (x3 : Vec Ideal S90x5120 .i32) (x4 : Vec Ideal S90x5120 .i32) (x5 : Vec Ideal S2880x128 .bf16) (x6 : Vec Ideal S128x256 .bf16) (x7 : Vec Ideal S80x5120 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blockV x0 x1 x5 x6 (weightV x2 x3 x4 x7)) ∗ owns (c : Thread nD τ) arg10 fullShare (weightV x2 x3 x4 x7) ∗ (∃ d, owns (c : Thread nD τ) arg11 fullShare d)) -∗ K ⟨⟩))
          ⊢ wp frame (wpE (defs₀ (F := Ideal)) Variants.none c none) E (cc0_qalora i arg1 harg1 arg2 harg2 arg3 harg3 arg4 harg4 arg5 harg5 arg6 harg6 arg7 harg7 arg8 harg8 arg9 harg9 arg10 harg10 arg11 harg11) K := by
    intro E K
    simp only [cc0_qalora_eq_skeleton]; unfold cc0_qalora_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro; sl_unfold_words
      simp only [View.readAt_eq_ld, harg1.read_unread, harg2.read_unread, harg6.read_unread, harg7.read_unread, harg8.read_unread,
        ld_S80x5120, weight_read]
      simp only [ld_S512x2880, ld_S512x1, ld_S2880x128, ld_S128x256, tail_read, pay3_eq, pay14_eq, pay15_eq, pay17_eq, pay18_eq,
        pay19_eq, pay20_eq, pay21_eq, pay1_eq]
      exact block_read arg9.view f8 x0 (tailV x0 x1 x5 x6) (weightV x2 x3 x4 x7)
    isplitl [HS0]
    · iexists _; isplitr; swap; · iexact HS0
      ipureintro; sl_unfold_words
      simp only [View.readAt_eq_ld, harg8.read_unread, ld_S80x5120, weight_read]
    iexists _, _; isplitr; swap; · iexact HS1
    ipureintro; rfl

end Cert.KernelIdeal.Hand

end
-- ==== Proof.RunB.lean ====
/- The body run at a later point: it reads the weight scratch as the first point left it. -/
module

public import proofs.«01_k».proof.Proof.Values
public import Idealize.ShloMosaic.PureOps.Ideal.Laws

@[expose] public section

set_option maxRecDepth 16384

noncomputable section

namespace Cert.KernelIdeal.Hand

open Cert.KernelIdeal.Gen Idealize.ShloMosaic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- A point after the first: with the weight scratch at `W` and the inputs at their contents, the body leaves the point's
    output block over `W` in the output window, and the weight scratch as it was. -/
theorem kernelRun0_B (c : Dev nD) (i : grid0.Coords) (arg1 : Memref sig .tc .vmem S512x2880 .bf16) (harg1 : arg1.IsWhole) (arg2 : Memref sig .tc .vmem S512x1 .i32) (harg2 : arg2.IsWhole) (arg3 : Memref sig .tc .vmem S1440x5120 .i8) (harg3 : arg3.IsWhole) (arg4 : Memref sig .tc .vmem S90x5120 .i32) (harg4 : arg4.IsWhole) (arg5 : Memref sig .tc .vmem S90x5120 .i32) (harg5 : arg5.IsWhole) (arg6 : Memref sig .tc .vmem S2880x128 .bf16) (harg6 : arg6.IsWhole) (arg7 : Memref sig .tc .vmem S128x256 .bf16) (harg7 : arg7.IsWhole) (arg8 : Memref sig .tc .vmem S80x5120 .bf16) (harg8 : arg8.IsWhole) (arg9 : Memref sig .tc .vmem S512x5120 .bf16) (harg9 : arg9.IsWhole) (arg10 : Memref sig .tc .vmem S3072x5120 .bf16) (harg10 : arg10.IsWhole) (arg11 : Memref sig .tc .vmem S512x256 .bf16) (harg11 : arg11.IsWhole) (hc0 : ¬cond0_0 i)
    (x0 : Vec Ideal S512x2880 .bf16) (x1 : Vec Ideal S512x1 .i32) (x2 : Vec Ideal S1440x5120 .i8) (x3 : Vec Ideal S90x5120 .i32) (x4 : Vec Ideal S90x5120 .i32) (x5 : Vec Ideal S2880x128 .bf16) (x6 : Vec Ideal S128x256 .bf16) (x7 : Vec Ideal S80x5120 .bf16) (W : Vec Ideal S3072x5120 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare W ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blockV x0 x1 x5 x6 W) ∗ owns (c : Thread nD τ) arg10 fullShare W ∗ (∃ d, owns (c : Thread nD τ) arg11 fullShare d)) -∗ K ⟨⟩))
          ⊢ wp frame (wpE (defs₀ (F := Ideal)) Variants.none c none) E (cc0_qalora i arg1 harg1 arg2 harg2 arg3 harg3 arg4 harg4 arg5 harg5 arg6 harg6 arg7 harg7 arg8 harg8 arg9 harg9 arg10 harg10 arg11 harg11) K := by
    intro E K
    simp only [cc0_qalora_eq_skeleton]; unfold cc0_qalora_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro; sl_unfold_words
      simp only [View.readAt_eq_ld, harg1.read_unread, harg2.read_unread, harg6.read_unread, harg7.read_unread, harg10.read_unread]
      exact (by
        simp only [ld_S512x2880, ld_S512x1, ld_S2880x128, ld_S128x256, tail_read, pay3_eq, pay14_eq, pay15_eq, pay17_eq, pay18_eq,
          pay19_eq, pay20_eq, pay21_eq, pay1_eq]
        exact block_read arg9.view f8 x0 (tailV x0 x1 x5 x6) W)
    isplitl [HS0]
    · iexists _; isplitr; swap; · iexact HS0
      ipureintro; exact harg10.read_unread _
    iexists _, _; isplitr; swap; · iexact HS1
    ipureintro; rfl

end Cert.KernelIdeal.Hand

end
-- ==== Proof.Region.lean ====
/- The region's proof data with the weight scratch tracked, the body's obligation at every point, the run of @main and the
   frame claim. -/
module

public import proofs.«01_k».proof.Proof.RunA
public import proofs.«01_k».proof.Proof.RunB
public import Idealize.ShloMosaic.Lib.Claim

@[expose] public section

set_option maxRecDepth 16384

noncomputable section

namespace Cert.KernelIdeal.Hand

open Cert.KernelIdeal.Gen Idealize.ShloMosaic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The grid's first point. -/
abbrev pt0 : Fin cfg0.N := ⟨0, by rw [show cfg0.N = 48 from N_0]; decide⟩

/-- What the weight scratch holds from the first point on: the dequantized rows, the adapter rows and the zero rows, from
    the blocks of the codes, the scale words, the zero words and the adapter matrix. -/
def fullWeight (c : Dev nD) : Vec Ideal S3072x5120 .bf16 :=
  weightV (iblk m c 2 pt0) (iblk m c 3 pt0) (iblk m c 4 pt0) (iblk m c 7 pt0)

/-- What the region holds besides its windows before point `t`: at the first point anything; afterwards the weight scratch
    at `fullWeight`, the tail scratch and the generator register at anything. -/
def inv (c : Dev nD) (t : ℕ) : sProp 𝕄 :=
  if t = 0 then Pipeline.ΦA spec0 c
  else iprop(iprop(owns (c : Thread nD τ) scM0_0 fullShare (fullWeight m c)
    ∗ (∃ d, owns (c : Thread nD τ) scM0_1 fullShare d)) ∗ (∃ r, prngReg c r))

/-- The proof data of the pipeline on core `c`: the arrays as the region finds them; after the body at point `t` each
    input's buffer at its block and the output's at the point's block over `fullWeight`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockV (iblk m c 0 t) (iblk m c 1 t) (iblk m c 5 t) (iblk m c 6 t) (fullWeight m c)
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = blockV (iblk m c 0 t) (iblk m c 1 t) (iblk m c 5 t) (iblk m c 6 t) (fullWeight m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body's obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- And what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  have hN : t.val < 48 := lt_of_lt_of_eq t.isLt (show cfg0.N = 48 from N_0)
  rw [show (dats m 0 c).Φ t.succ = inv m c (t.val + 1) from rfl,
    show (dats m 0 c).Φ t.castSucc = inv m c t.val from rfl]
  rw [show inv m c (t.val + 1) = iprop(iprop(owns (c : Thread nD τ) scM0_0 fullShare (fullWeight m c)
    ∗ (∃ d, owns (c : Thread nD τ) scM0_1 fullShare d)) ∗ (∃ r, prngReg c r)) from if_neg (Nat.succ_ne_zero _)]
  by_cases h0 : t.val = 0
  · obtain rfl : t = pt0 := Fin.ext h0
    rw [show inv m c (pt0 : Fin cfg0.N).val = Pipeline.ΦA spec0 c from if_pos rfl, PhiA0_eq]
    unfold fullWeight
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords pt0) _ _ _ _ _ _ _ _ _ _ _ _ _ _ _ _ _ _ _ _ _ _ ((hcond0_0 pt0).mpr rfl) (iblk m c 0 pt0) (iblk m c 1 pt0) (iblk m c 2 pt0) (iblk m c 3 pt0) (iblk m c 4 pt0) (iblk m c 5 pt0) (iblk m c 6 pt0) (iblk m c 7 pt0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show inv m c t.val = iprop(iprop(owns (c : Thread nD τ) scM0_0 fullShare (fullWeight m c)
      ∗ (∃ d, owns (c : Thread nD τ) scM0_1 fullShare d)) ∗ (∃ r, prngReg c r)) from if_neg h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (iblk m c 5 t) (iblk m c 6 t) (iblk m c 7 t) (fullWeight m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

/-- What the region is entered with is the invariant before the first point. -/
theorem inv_in (c : Dev nD) : Pipeline.ΦA spec0 c ⊢ (dats m 0 c).Φ 0 := .rfl

/-- After the last point the invariant gives back the scratch buffers at some contents. -/
theorem inv_out (c : Dev nD) : (dats m 0 c).Φ (Fin.last cfg0.N) ⊢ Pipeline.ΦA spec0 c := by
  have h : cfg0.N ≠ 0 := by rw [show cfg0.N = 48 from N_0]; decide
  show inv m c cfg0.N ⊢ _
  rw [inv, if_neg h, PhiA0_eq]
  iintro ⟨⟨HS0, HS1⟩, Hg⟩
  isplitl [HS0 HS1]
  · isplitl [HS0]
    · iexists _; iexact HS0
    iexact HS1
  iexact Hg

set_option backward.isDefEq.respectTransparency.types false in
set_option maxHeartbeats 800000 in
/-- The run of @main: every final state has the pipeline's arrays and the host lines' buffers at the contents the proof
    data name, and every semaphore counter at zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The run without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Host.lean ====
/- The arrays that the host part hands to the region, each read at an index. -/
module

public import proofs.«01_k».proof.Proof.Region
public import Idealize.ShloMosaic.Lib.StableHlo.RunRead
public import Idealize.ShloMosaic.Lib.ValueIdxCoords
public import Idealize.ShloMosaic.Lib.KernelVsHost
public import Idealize.ShloMosaic.Lib.IdealHost

@[expose] public section

set_option maxRecDepth 16384

noncomputable section

namespace Cert.KernelIdeal.Hand

open Cert.KernelIdeal.Gen Idealize.ShloMosaic
open Idealize.ShloMosaic Idealize.ShloMosaic.ValueIdx Idealize.ShloMosaic.TcCoe Idealize.ShloMosaic.StableHlo Idealize.SL.Sem

variable (m : (ℓ : Loc nD τ sig) → Buf (Elt Ideal) ℓ)

/-- The tokens' features as a matrix. -/
theorem V_v0 (c : Dev nD) : V m c main_v0 = shapeCast S24576x2880 (m ((c : Thread nD τ).loc main_arg0)) shapeCasts_S24x1024x2880_S24576x2880 := by
  show StableHlo.after (List.flatten [hostOps0, hostOps0_1, hostOps0_2, hostOps0_3, hostOps0_4]) (fun b => m (c, b)) (Proc.devRef .tc main_v0) = _
  simp only [hostOps0, hostOps0_1, hostOps0_2, hostOps0_3, hostOps0_4, List.flatten_cons, List.flatten_nil, List.append_nil, List.cons_append, List.nil_append]
  after_reads_simp
  rfl

/-- The tokens' adapter names as a column. -/
theorem V_v1 (c : Dev nD) : V m c main_v1 = shapeCast S24576x1 (m ((c : Thread nD τ).loc main_arg6)) shapeCasts_S24x1024_S24576x1 := by
  show StableHlo.after (List.flatten [hostOps0, hostOps0_1, hostOps0_2, hostOps0_3, hostOps0_4]) (fun b => m (c, b)) (Proc.devRef .tc main_v1) = _
  simp only [hostOps0, hostOps0_1, hostOps0_2, hostOps0_3, hostOps0_4, List.flatten_cons, List.flatten_nil, List.append_nil, List.cons_append, List.nil_append]
  after_reads_simp
  rfl

/-- The second adapter factor as a matrix. -/
theorem V_v24 (c : Dev nD) : V m c main_v24 = shapeCast S80x5120 (m ((c : Thread nD τ).loc main_arg5)) shapeCasts_S5x16x5120_S80x5120 := by
  show StableHlo.after (List.flatten [hostOps0, hostOps0_1, hostOps0_2, hostOps0_3, hostOps0_4]) (fun b => m (c, b)) (Proc.devRef .tc main_v24) = _
  simp only [hostOps0, hostOps0_1, hostOps0_2, hostOps0_3, hostOps0_4, List.flatten_cons, List.flatten_nil, List.append_nil, List.cons_append, List.nil_append]
  after_reads_simp
  rfl

/-- A 16-bit value in both halves of a word. -/
def twice (w : BitVec 32) : BitVec 32 := w ||| (w <<< (16#32 : BitVec 32))

/-- The scale words: each scale in both halves. -/
theorem V_v5 (c : Dev nD) (g : Fin 90) (o : Fin 5120) : V m c main_v5 (ix2 g o) = twice ((m ((c : Thread nD τ).loc main_arg2) (ix2 g o) : BitVec 16).setWidth 32) := by
  have : V m c main_v5 = ori (extui 32 (m ((c : Thread nD τ).loc main_arg2)) natLt_16_32)
      (Host.shli (extui 32 (m ((c : Thread nD τ).loc main_arg2)) natLt_16_32) (broadcastInDim S90x5120 ![] bcast_S_S90x5120 (constantI S_ 32 16#32))) := by
    show StableHlo.after (List.flatten [hostOps0, hostOps0_1, hostOps0_2, hostOps0_3, hostOps0_4]) (fun b => m (c, b)) (Proc.devRef .tc main_v5) = _
    simp only [hostOps0, hostOps0_1, hostOps0_2, hostOps0_3, hostOps0_4, List.flatten_cons, List.flatten_nil, List.append_nil, List.cons_append, List.nil_append]
    after_reads_simp
  rw [this]
  rfl

/-- The zero-point words: each zero point in both halves, under the exponent of 128. -/
theorem V_v11 (c : Dev nD) (g : Fin 90) (o : Fin 5120) : V m c main_v11 (ix2 g o)
    = twice ((m ((c : Thread nD τ).loc main_arg3) (ix2 g o) : BitVec 8).setWidth 32) ||| 1124090624#32 := by
  have : V m c main_v11 = ori (ori (extui 32 (m ((c : Thread nD τ).loc main_arg3)) natLt_8_32)
      (Host.shli (extui 32 (m ((c : Thread nD τ).loc main_arg3)) natLt_8_32) (broadcastInDim S90x5120 ![] bcast_S_S90x5120 (constantI S_ 32 16#32))))
      (broadcastInDim S90x5120 ![] bcast_S_S90x5120 (constantI S_ 32 1124090624#32)) := by
    show StableHlo.after (List.flatten [hostOps0, hostOps0_1, hostOps0_2, hostOps0_3, hostOps0_4]) (fun b => m (c, b)) (Proc.devRef .tc main_v11) = _
    simp only [hostOps0, hostOps0_1, hostOps0_2, hostOps0_3, hostOps0_4, List.flatten_cons, List.flatten_nil, List.append_nil, List.cons_append, List.nil_append]
    after_reads_simp
  rw [this]
  rfl

/-- The sign of a word, as the host spells it. -/
def sgn (w : BitVec 32) : BitVec 32 := if w = 0 then 0 else if w.msb then -1 else 1

/-- A word divided by 32, rounded down, as the host spells it. -/
def fdiv (w : BitVec 32) : BitVec 32 :=
  Scalar.select (IntOp.andi (IntOp.cmpi .ne (sgn w) (sgn 32#32)) (IntOp.cmpi .ne (IntOp.remsi .host w 32#32) 0#32))
    (IntOp.subi (IntOp.divsi .host w 32#32) 1#32) (IntOp.divsi .host w 32#32)

/-- Below 2880 the host's spelling is the quotient. -/
theorem fdiv_ofNat : ∀ k : Fin 2880, fdiv (BitVec.ofNat 32 k.val) = BitVec.ofNat 32 (k.val / 32) := by
  decide +kernel

/-- An entry of the pooling matrix, as the host spells it. -/
theorem V_v20 (c : Dev nD) (k : Fin 2880) (l : Fin 128) : V m c main_v20 (ix2 k l)
    = (((IntOp.cmpi .eq (fdiv (BitVec.ofNat 32 k.val)) (BitVec.ofNat 32 l.val)).toNat : ℝ) : EReal) := by
  show StableHlo.after (List.flatten [hostOps0, hostOps0_1, hostOps0_2, hostOps0_3, hostOps0_4]) (fun b => m (c, b)) (Proc.devRef .tc main_v20) (ix2 k l) = _
  simp only [hostOps0, hostOps0_1, hostOps0_2, hostOps0_3, hostOps0_4, List.flatten_cons, List.flatten_nil, List.append_nil, List.cons_append, List.nil_append]
  after_reads_simp
  simp only [TRef.ofBuf_toBuf]
  rfl

/-- The padded first adapter factor. -/
theorem V_v23 (c : Dev nD) : V m c main_v23 = pad S128x256 ![0, 64] ![38, 112] ![0, 0]
      (shapeCast S90x80 (transpose S90x5x16 [1, 0, 2] (m ((c : Thread nD τ).loc main_arg4)) transposes_S5x90x16_S90x5x16_1_0_2) shapeCasts_S90x5x16_S90x80)
      (sitofp (F := Ideal) FTy.bf16 (constantI S_ 32 0#32)) pads_S90x80_S128x256_0380_641120 h_S_ := by
  show StableHlo.after (List.flatten [hostOps0, hostOps0_1, hostOps0_2, hostOps0_3, hostOps0_4]) (fun b => m (c, b)) (Proc.devRef .tc main_v23) = _
  simp only [hostOps0, hostOps0_1, hostOps0_2, hostOps0_3, hostOps0_4, List.flatten_cons, List.flatten_nil, List.append_nil, List.cons_append, List.nil_append]
  after_reads_simp
  rfl

/-- The tokens' features at row `r`. -/
theorem v0_apply (c : Dev nD) (r : Fin 24576) (k : Fin 2880) : V m c main_v0 (ix2 r k)
    = m ((c : Thread nD τ).loc main_arg0) (ix3 (⟨r.val / 1024, by omega⟩ : Fin 24) (⟨r.val % 1024, by omega⟩ : Fin 1024) k) := by
  rw [V_v0]
  refine shapeCast_apply _ shapeCasts_S24x1024x2880_S24576x2880 _ _ ?_
  rw [Shape.rowMajor_val_two, Shape.rowMajor_val_three]
  show (r.val / 1024 * 1024 + r.val % 1024) * 2880 + k.val = r.val * 2880 + k.val
  omega

/-- The tokens' adapter names at row `r`. -/
theorem v1_apply (c : Dev nD) (r : Fin 24576) : V m c main_v1 (ix2 r (0 : Fin 1))
    = m ((c : Thread nD τ).loc main_arg6) (ix2 (⟨r.val / 1024, by omega⟩ : Fin 24) (⟨r.val % 1024, by omega⟩ : Fin 1024)) := by
  rw [V_v1]
  refine shapeCast_apply _ shapeCasts_S24x1024_S24576x1 _ _ ?_
  rw [Shape.rowMajor_val_two, Shape.rowMajor_val_two]
  show r.val / 1024 * 1024 + r.val % 1024 = r.val * 1 + 0
  omega

/-- The second adapter factor, its adapters stacked. -/
theorem v24_apply (c : Dev nD) (q : Fin 80) (o : Fin 5120) : V m c main_v24 (ix2 q o)
    = m ((c : Thread nD τ).loc main_arg5) (ix3 (⟨q.val / 16, by omega⟩ : Fin 5) (⟨q.val % 16, by omega⟩ : Fin 16) o) := by
  rw [V_v24]
  refine shapeCast_apply _ shapeCasts_S5x16x5120_S80x5120 _ _ ?_
  rw [Shape.rowMajor_val_two, Shape.rowMajor_val_three]
  show (q.val / 16 * 16 + q.val % 16) * 5120 + o.val = q.val * 5120 + o.val
  omega

/-- The first adapter factor, its adapters side by side and zeros around them: inside. -/
theorem v23_in (c : Dev nD) (g : Fin 90) (a : Fin 5) (r : Fin 16) :
    V m c main_v23 (ix2 (⟨g.val, by omega⟩ : Fin 128) (⟨64 + (16 * a.val + r.val), by omega⟩ : Fin 256))
      = m ((c : Thread nD τ).loc main_arg4) (ix3 a g r) := by
  rw [V_v23]
  refine (pad_apply_of_inside _ _ _ _ _ _ _ _ (ix2 g (⟨16 * a.val + r.val, by omega⟩ : Fin 80)) ?_).trans ?_
  · intro i
    match i with
    | ⟨0, _⟩ => show g.val = 0 + g.val * 1; omega
    | ⟨1, _⟩ => show 64 + (16 * a.val + r.val) = 64 + (16 * a.val + r.val) * 1; omega
  · refine (shapeCast_apply _ shapeCasts_S90x5x16_S90x80 _ (ix3 g a r) ?_).trans ?_
    · rw [Shape.rowMajor_val_two, Shape.rowMajor_val_three]
      show (g.val * 5 + a.val) * 16 + r.val = g.val * 80 + (16 * a.val + r.val)
      omega
    · unfold transpose
      refine congrArg _ ?_
      funext i; match i with | ⟨0, _⟩ => rfl | ⟨1, _⟩ => rfl | ⟨2, _⟩ => rfl

/-- The same: below the 90 groups. -/
theorem v23_below (c : Dev nD) (g : Fin 128) (q : Fin 256) (hg : 90 ≤ g.val) : V m c main_v23 (ix2 g q) = (0 : EReal) := by
  rw [V_v23]
  refine (pad_apply_of_not_inside _ _ _ _ _ _ _ _ (0 : Fin 2) ?_).trans ?_
  · rintro ⟨_, _, h⟩
    have h : (g.val - 0) / 1 < 90 := h
    omega
  · show (((0#32 : BitVec 32).toInt : ℝ) : EReal) = 0
    simp

/-- The same: right of the five adapters. -/
theorem v23_right (c : Dev nD) (g : Fin 128) (q : Fin 256) (hq : 144 ≤ q.val) : V m c main_v23 (ix2 g q) = (0 : EReal) := by
  rw [V_v23]
  refine (pad_apply_of_not_inside _ _ _ _ _ _ _ _ (1 : Fin 2) ?_).trans ?_
  · rintro ⟨_, _, h⟩
    have h : (q.val - 64) / 1 < 80 := h
    omega
  · show (((0#32 : BitVec 32).toInt : ℝ) : EReal) = 0
    simp

/-- An entry of the pooling matrix: one where the feature lies in the lane's group. -/
theorem v20_apply (c : Dev nD) (k : Fin 2880) (l : Fin 128) : V m c main_v20 (ix2 k l)
    = if k.val / 32 = l.val then (1 : EReal) else 0 := by
  rw [V_v20, fdiv_ofNat]
  have hk := k.isLt
  have hl := l.isLt
  show ((((BitVec.ofBool (BitVec.ofNat 32 (k.val / 32) == BitVec.ofNat 32 l.val)).toNat : ℕ) : ℝ) : EReal) = _
  by_cases h : k.val / 32 = l.val
  · rw [if_pos h, h, beq_self_eq_true]; simp
  · have : (BitVec.ofNat 32 (k.val / 32) == BitVec.ofNat 32 l.val) = false := by
      apply beq_eq_false_iff_ne.mpr
      intro e
      have := congrArg BitVec.toNat e
      simp only [BitVec.toNat_ofNat] at this
      omega
    rw [if_neg h, this]; simp

end Cert.KernelIdeal.Hand

end
-- ==== Proof.Spec.lean ====
/- The value both programs compute, written with plain sums over the extended reals: a low-bit weight matrix applied to every
   token, plus the token's own adapter's two low-rank factors applied to its group means. -/
module

public import Idealize.ShloMosaic.Lib.ValueIdx
public import Idealize.ShloMosaic.PureOps.Ideal.Laws

@[expose] public section

noncomputable section

namespace Cert.Spec

open Idealize.ShloMosaic Idealize.ShloMosaic.ValueIdx
open scoped BigOperators

/-! The arguments' types: features, packed codes, scale bits, zero points, the two adapter factors, adapter names. -/

abbrev X0 : Type := (⟨3, ![24, 1024, 2880]⟩ : Shape).Idx → EReal
abbrev X1 : Type := (⟨2, ![1440, 5120]⟩ : Shape).Idx → BitVec 8
abbrev X2 : Type := (⟨2, ![90, 5120]⟩ : Shape).Idx → BitVec 16
abbrev X3 : Type := (⟨2, ![90, 5120]⟩ : Shape).Idx → BitVec 8
abbrev X4 : Type := (⟨3, ![5, 90, 16]⟩ : Shape).Idx → EReal
abbrev X5 : Type := (⟨3, ![5, 16, 5120]⟩ : Shape).Idx → EReal
abbrev X6 : Type := (⟨2, ![24, 1024]⟩ : Shape).Idx → BitVec 32

/-- The four-bit field of a code byte that row `r` holds: the low field on even rows, the high field on odd rows. -/
def field (r : ℕ) (b : BitVec 8) : ℕ := if r % 2 = 0 then b.toNat % 16 else b.toNat / 16

/-- Row `k`, column `o` of the weights: the code's field less its group's zero point, times its group's scale. -/
def weight (x1 : X1) (x2 : X2) (x3 : X3) (k : Fin 2880) (o : Fin 5120) : EReal :=
  (((field k.val (x1 (ix2 ⟨k.val / 2, by omega⟩ o)) : ℝ) : EReal)
      - (((x3 (ix2 ⟨k.val / 32, by omega⟩ o)).toNat : ℝ) : EReal))
    * Ideal.ofBits .bf16 (x2 (ix2 ⟨k.val / 32, by omega⟩ o))

/-- The mean of group `g` of a token's features: the sum of its 32 features times a thirty-second. -/
def mean (x0 : X0) (b : Fin 24) (s : Fin 1024) (g : Fin 90) : EReal :=
  (∑ j : Fin 32, x0 (ix3 b s ⟨32 * g.val + j.val, by omega⟩)) * Ideal.ofBits .f32 0x3D000000#32

/-- Entry `r` of adapter `a`'s first factor applied to a token's group means: zero unless the token names adapter `a`. -/
def inner (x0 : X0) (x4 : X4) (x6 : X6) (b : Fin 24) (s : Fin 1024) (a : Fin 5) (r : Fin 16) : EReal :=
  if x6 (ix2 b s) = BitVec.ofNat 32 a.val then ∑ g : Fin 90, mean x0 b s g * x4 (ix3 a g r) else 0

/-- The result at token `(b, s)`, output feature `o`. -/
def out (x0 : X0) (x1 : X1) (x2 : X2) (x3 : X3) (x4 : X4) (x5 : X5) (x6 : X6) (b : Fin 24) (s : Fin 1024) (o : Fin 5120) : EReal :=
  (∑ k : Fin 2880, x0 (ix3 b s k) * weight x1 x2 x3 k o)
    + ∑ a : Fin 5, ∑ r : Fin 16, inner x0 x4 x6 b s a r * x5 (ix3 a r o)

end Cert.Spec

end
-- ==== Proof.Words.lean ====
/- The words the kernel subtracts and multiplies, read as values: a field under the exponent of 128 is 128 plus the field, so
   the exponent's 128 cancels and a row of the scratch is the specified weight. -/
module

public import proofs.«01_k».proof.Proof.Values
public import proofs.«01_k».proof.Proof.Host
public import proofs.«01_k».proof.Proof.Spec

@[expose] public section

noncomputable section

namespace Cert.KernelIdeal.Hand

open Idealize.ShloMosaic Idealize.ShloMosaic.ValueIdx

/-- A 7-bit number under the exponent of 128 is 128 plus the number. -/
theorem ofBits_under (c : Fin 128) : Ideal.ofBits .bf16 (BitVec.ofNat 16 (0x4300 + c.val)) = (((128 + c.val : ℕ) : ℝ) : EReal) := by
  have h1 : (BitVec.ofNat 16 (0x4300 + c.val)).extractLsb' 15 1 = 0#1 := by revert c; decide
  have h2 : (BitVec.ofNat 16 (0x4300 + c.val)).extractLsb' 7 8 = 134#8 := by revert c; decide
  have h3 : ((BitVec.ofNat 16 (0x4300 + c.val)).extractLsb' 0 7).toNat = c.val := by revert c; decide
  show Ideal.ieee 8 7 (BitVec.ofNat 16 (0x4300 + c.val)) = _
  unfold Ideal.ieee
  simp only [show (8 + 7 : ℕ) = 15 from rfl, h1, h2, h3]
  norm_num

/-- The half a row reads of a code byte's word. -/
theorem mix_half : ∀ (b : BitVec 8) (p : Fin 2),
    (mix b).extractLsb' (16 * p.val) 16 = BitVec.ofNat 16 (0x4300 + if p.val = 0 then b.toNat % 16 else b.toNat / 16) := by
  decide +kernel

/-- The half a row reads of a zero-point word. -/
theorem zero_half : ∀ (b : BitVec 8) (p : Fin 2), b.toNat < 128 →
    (twice (b.setWidth 32) ||| 1124090624#32).extractLsb' (16 * p.val) 16 = BitVec.ofNat 16 (0x4300 + b.toNat) := by
  decide +kernel

/-- Either half of a scale word is the scale. -/
theorem scale_half (s : BitVec 16) (p : Fin 2) : (twice (s.setWidth 32)).extractLsb' (16 * p.val) 16 = s := by
  unfold twice
  fin_cases p
  · apply BitVec.eq_of_getLsbD_eq
    intro i hi
    simp [BitVec.getLsbD_extractLsb', hi]
    intro _; omega
  · apply BitVec.eq_of_getLsbD_eq
    intro i hi
    simp [BitVec.getLsbD_extractLsb', hi, show 16 + i < 32 by omega, show i < 32 by omega]

/-- The code value row `r` reads. -/
theorem half_mix (r : ℕ) (b : BitVec 8) : half r (mix b) = (((128 + Cert.Spec.field r b : ℕ) : ℝ) : EReal) := by
  unfold half
  have e := mix_half b ⟨r % 2, Nat.mod_lt _ (by decide)⟩
  simp only at e
  rw [e]
  have hb := b.isLt
  have : (if r % 2 = 0 then b.toNat % 16 else b.toNat / 16) < 128 := by split <;> omega
  exact ofBits_under ⟨_, this⟩

/-- The zero point row `r` reads. -/
theorem half_zero (r : ℕ) (b : BitVec 8) (h : b.toNat < 128) :
    half r (twice (b.setWidth 32) ||| 1124090624#32) = (((128 + b.toNat : ℕ) : ℝ) : EReal) := by
  unfold half
  have e := zero_half b ⟨r % 2, Nat.mod_lt _ (by decide)⟩ h
  simp only at e
  rw [e]
  exact ofBits_under ⟨_, h⟩

/-- The scale row `r` reads. -/
theorem half_scale (r : ℕ) (s : BitVec 16) : half r (twice (s.setWidth 32)) = Ideal.ofBits .bf16 s := by
  unfold half
  have e := scale_half s ⟨r % 2, Nat.mod_lt _ (by decide)⟩
  simp only at e
  rw [e]

/-- The exponent's 128 cancels. -/
theorem cancel (a b : ℕ) : (((128 + a : ℕ) : ℝ) : EReal) - (((128 + b : ℕ) : ℝ) : EReal) = ((a : ℝ) : EReal) - ((b : ℝ) : EReal) := by
  rw [← EReal.coe_sub, ← EReal.coe_sub]
  congr 1
  push_cast
  ring

end Cert.KernelIdeal.Hand

end
-- ==== Proof.Sums.lean ====
/- Sums over the extended reals cut into consecutive pieces. Only the order of the terms changes; nothing is distributed. -/
module

public import Idealize.ShloMosaic.PureOps.Ideal.Laws

@[expose] public section

namespace Cert.Sums

open scoped BigOperators

/-- A sum over `a * b` entries, `b` at a time. -/
theorem sum_blocks (a b n : ℕ) (h : a * b = n) (f : ℕ → EReal) :
    (∑ k : Fin n, f k.val) = ∑ g : Fin a, ∑ j : Fin b, f (b * g.val + j.val) := by
  subst h
  rw [← Fintype.sum_prod_type', ← finProdFinEquiv.sum_comp]
  refine Finset.sum_congr rfl fun p _ => ?_
  show f (p.2.val + b * p.1.val) = _
  rw [Nat.add_comm]

/-- A sum over `a + b` entries, the first `a` and then the rest. -/
theorem sum_cut (a b n : ℕ) (h : a + b = n) (f : ℕ → EReal) :
    (∑ k : Fin n, f k.val) = (∑ k : Fin a, f k.val) + ∑ k : Fin b, f (a + k.val) := by
  subst h
  rw [Fin.sum_univ_add]
  rfl

/-- A sum whose entries past the first `a` are zero. -/
theorem sum_front (a b n : ℕ) (h : a + b = n) (f : ℕ → EReal) (hz : ∀ k, a ≤ k → k < n → f k = 0) :
    (∑ k : Fin n, f k.val) = ∑ k : Fin a, f k.val := by
  rw [sum_cut a b n h, Finset.sum_eq_zero (s := (Finset.univ : Finset (Fin b))) (fun k _ => hz _ (by omega) (by have := k.isLt; omega)), add_zero]

/-- The entries of one group of 32 picked by a 0/1 factor and added. -/
theorem sum_pick (f : ℕ → EReal) (g : Fin 90) :
    (∑ k : Fin 2880, f k.val * (if k.val / 32 = g.val then (1 : EReal) else 0)) = ∑ j : Fin 32, f (32 * g.val + j.val) := by
  rw [sum_blocks 90 32 2880 rfl (fun k => f k * (if k / 32 = g.val then (1 : EReal) else 0))]
  rw [Finset.sum_eq_single g]
  · refine Finset.sum_congr rfl fun j _ => ?_
    have : (32 * g.val + j.val) / 32 = g.val := by omega
    rw [if_pos this, mul_one]
  · intro b _ hb
    refine Finset.sum_eq_zero fun j _ => ?_
    have : ¬(32 * b.val + j.val) / 32 = g.val := fun e => hb (Fin.ext (by omega))
    rw [if_neg this, mul_zero]
  · intro h; exact absurd (Finset.mem_univ g) h

end Cert.Sums
-- ==== Proof.Tail.lean ====
/- The tail operand's adapter columns: the masked first factor applied to a token's group means. -/
module

public import proofs.«01_k».proof.Proof.Values
public import proofs.«01_k».proof.Proof.Sums
public import Idealize.ShloMosaic.Lib.IdealHost

@[expose] public section

set_option maxRecDepth 16384

noncomputable section

namespace Cert.KernelIdeal.Hand

open Cert.KernelIdeal.Gen
open Idealize.ShloMosaic Idealize.ShloMosaic.ValueIdx Idealize.SL.Sem
open scoped BigOperators

/-- The adapter a tail column belongs to. -/
theorem column_adapter : ∀ (a : Fin 5) (j : Fin 16),
    IntOp.shrsi .vector (IntOp.subi (BitVec.ofNat 32 (64 + (16 * a.val + j.val))) 64#32) 4#32 = BitVec.ofNat 32 a.val := by
  decide +kernel

/-- The tail's matrix product before the mask, at an index. -/
theorem pay11_apply (x : Vec Ideal S512x2880 .bf16) (ids : Vec Ideal S512x1 .i32) (p : Vec Ideal S2880x128 .bf16)
    (w : Vec Ideal S128x256 .bf16) (r : Fin 512) (q : Fin 256) :
    k0_pay11 (F := Ideal) x p w ids (ix2 r q)
      = if ids (ix2 r (0 : Fin 1)) = IntOp.shrsi .vector (IntOp.subi (BitVec.ofNat 32 q.val) 64#32) 4#32
        then ∑ g : Fin 128, ((∑ k : Fin 2880, x (ix2 r k) * p (ix2 k g)) * Ideal.ofBits .f32 0x3D000000#32) * w (ix2 g q)
        else 0 := by
  unfold k0_pay11
  simp only [shapeCast_self]
  have h0 : ∀ j, (constant (F := Ideal) S512x128 .f32 0x00000000#32) j = (0 : EReal) := fun j => Ideal.ofBits_zero_f32
  have h0' : ∀ j, (constant (F := Ideal) S512x256 .f32 0x00000000#32) j = (0 : EReal) := fun j => Ideal.ofBits_zero_f32
  have e1 : ∀ g, matmul (F := Ideal) (φ₁ := .bf16) (φ₂ := .bf16) dot_S512x2880_S2880x128_S512x128_1_0_0_1_n_n none x p (constant S512x128 .f32 0x00000000#32) (ix2 r g)
      = ∑ k : Fin 2880, x (ix2 r k) * p (ix2 k g) := fun g => by
    have e := Ideal.matmul_plain_apply (φ₁ := .bf16) (φ₂ := .bf16) (M := 512) (K := 2880) (N := 128) none x p (constant (F := Ideal) S512x128 .f32 0x00000000#32) r g
    rw [h0, zero_add] at e
    exact e
  have e2 : ∀ u : FVec Ideal S512x128 .bf16, matmul (F := Ideal) (φ₁ := .bf16) (φ₂ := .bf16) dot_S512x128_S128x256_S512x256_1_0_0_1_n_n none u w (constant S512x256 .f32 0x00000000#32) (ix2 r q)
      = ∑ g : Fin 128, u (ix2 r g) * w (ix2 g q) := fun u => by
    have e := Ideal.matmul_plain_apply (φ₁ := .bf16) (φ₂ := .bf16) (M := 512) (K := 128) (N := 256) none u w (constant (F := Ideal) S512x256 .f32 0x00000000#32) r q
    rw [h0', zero_add] at e
    exact e
  have e3 : broadcastTo S512x256 ids broadcasts_S512x1_S512x256 (ix2 r q) = ids (ix2 r (0 : Fin 1)) := by
    refine broadcastTo_apply ids _ (ix2 r q) (ix2 r (0 : Fin 1)) fun ax => ?_
    match ax with
    | ⟨0, _⟩ => rfl
    | ⟨1, _⟩ => rfl
  have e4 : iota .tc S512x256 32 [1] iota_S512x256_d1_w32 (ix2 r q) = BitVec.ofNat 32 q.val :=
    iota_single_apply .tc S512x256 32 (1 : Fin 2) iota_S512x256_d1_w32 (ix2 r q)
  show Scalar.select (IntOp.cmpi .eq (broadcastTo S512x256 ids broadcasts_S512x1_S512x256 (ix2 r q))
      (IntOp.shrsi .vector (IntOp.subi (iota .tc S512x256 32 [1] iota_S512x256_d1_w32 (ix2 r q)) 64#32) 4#32))
    (matmul (F := Ideal) (φ₁ := .bf16) (φ₂ := .bf16) dot_S512x128_S128x256_S512x256_1_0_0_1_n_n none ((fun i => matmul (F := Ideal) (φ₁ := .bf16) (φ₂ := .bf16) dot_S512x2880_S2880x128_S512x128_1_0_0_1_n_n none x p (constant S512x128 .f32 0x00000000#32) i * Ideal.ofBits .f32 0x3D000000#32 : FVec Ideal S512x128 .bf16)) (w : FVec Ideal S128x256 .bf16) (constant S512x256 .f32 0x00000000#32) (ix2 r q) * Ideal.ofBits .f32 0x3F800000#32)
    (Ideal.ofBits .f32 0x00000000#32) = _
  rw [e3, e4, e2, Ideal.ofBits_one_f32, mul_one, Ideal.ofBits_zero_f32]
  simp only [e1]
  by_cases h : ids (ix2 r (0 : Fin 1)) = IntOp.shrsi .vector (IntOp.subi (BitVec.ofNat 32 q.val) 64#32) 4#32
  · rw [if_pos h]
    have : IntOp.cmpi .eq (ids (ix2 r (0 : Fin 1))) (IntOp.shrsi .vector (IntOp.subi (BitVec.ofNat 32 q.val) 64#32) 4#32) = 1#1 := by
      show BitVec.ofBool (_ == _) = 1#1
      rw [beq_iff_eq.mpr h]; rfl
    rw [this]; rfl
  · rw [if_neg h]
    have : IntOp.cmpi .eq (ids (ix2 r (0 : Fin 1))) (IntOp.shrsi .vector (IntOp.subi (BitVec.ofNat 32 q.val) 64#32) 4#32) = 0#1 := by
      show BitVec.ofBool (_ == _) = 0#1
      rw [beq_eq_false_iff_ne.mpr h]; rfl
    rw [this]; rfl

end Cert.KernelIdeal.Hand

end
-- ==== Proof.Final.lean ====
/- The blocks a grid point is given, and the region's result, read at an index of the whole arrays. -/
module

public import proofs.«01_k».proof.Proof.Words
public import proofs.«01_k».proof.Proof.Tail
public import proofs.«01_k».proof.Proof.Fill
public import Idealize.ShloMosaic.Lib.Pipeline.ValueKit

@[expose] public section

set_option maxRecDepth 16384

noncomputable section

namespace Cert.KernelIdeal.Hand

open Cert.KernelIdeal.Gen
open Idealize.ShloMosaic hiding ix2 ix3
open Idealize.ShloMosaic.ValueIdx Idealize.ShloMosaic.TcCoe Idealize.ShloMosaic.StableHlo Idealize.SL.Sem
open Idealize.ShloMosaic.Pipeline (Dat Cfg Window)
open scoped BigOperators

variable (m : (ℓ : Loc nD τ sig) → Buf (Elt Ideal) ℓ)

/-! ## The blocks a point is given -/

/-- Where each window's block lies at a point: the features, the names and the result move down one block of rows a point,
    the other windows stay at the origin. -/
theorem place : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := by
  decide +kernel

/-- There are 48 points. -/
theorem point_lt (t : Fin cfg0.N) : t.val < 48 := lt_of_lt_of_eq t.isLt (show cfg0.N = 48 from N_0)

/-- The array row of row `r` of point `t`'s block. -/
def rowOf (t : Fin cfg0.N) (r : Fin 512) : Fin 24576 := ⟨512 * t.val + r.val, by have := point_lt t; omega⟩

theorem iblk0 (c : Dev nD) (t : Fin cfg0.N) (r : Fin 512) (k : Fin 2880) :
    iblk m c 0 t (ix2 r k) = V m c main_v0 (ix2 (rowOf t r) k) := by
  blk_simp [iblk]
  refine congrArg (V m c main_v0) ?_
  funext a; apply Fin.ext
  have e := (place t).1
  match a with
  | ⟨0, _⟩ => blk_simp; rw [e]; show t.val * 512 + r.val = 512 * t.val + r.val; omega
  | ⟨1, _⟩ => blk_simp; rw [e]; show 0 * 2880 + k.val = k.val; omega

theorem iblk1 (c : Dev nD) (t : Fin cfg0.N) (r : Fin 512) :
    iblk m c 1 t (ix2 r (0 : Fin 1)) = V m c main_v1 (ix2 (rowOf t r) (0 : Fin 1)) := by
  blk_simp [iblk]
  refine congrArg (V m c main_v1) ?_
  funext a; apply Fin.ext
  have e := (place t).2.1
  match a with
  | ⟨0, _⟩ => blk_simp; rw [e]; show t.val * 512 + r.val = 512 * t.val + r.val; omega
  | ⟨1, _⟩ => blk_simp; rw [e]; rfl

theorem iblk2 (c : Dev nD) (t : Fin cfg0.N) (y : S1440x5120.Idx) : iblk m c 2 t y = V m c main_arg1 y := by
  blk_simp [iblk]
  refine congrArg (V m c main_arg1) ?_
  funext a; apply Fin.ext
  have e := (place t).2.2.1
  match a with
  | ⟨0, _⟩ => blk_simp; rw [e]; show 0 * 1440 + (y 0).val = (y 0).val; omega
  | ⟨1, _⟩ => blk_simp; rw [e]; show 0 * 5120 + (y 1).val = (y 1).val; omega

theorem iblk3 (c : Dev nD) (t : Fin cfg0.N) (y : S90x5120.Idx) : iblk m c 3 t y = V m c main_v5 y := by
  blk_simp [iblk]
  refine congrArg (V m c main_v5) ?_
  funext a; apply Fin.ext
  have e := (place t).2.2.2.1
  match a with
  | ⟨0, _⟩ => blk_simp; rw [e]; show 0 * 90 + (y 0).val = (y 0).val; omega
  | ⟨1, _⟩ => blk_simp; rw [e]; show 0 * 5120 + (y 1).val = (y 1).val; omega

theorem iblk4 (c : Dev nD) (t : Fin cfg0.N) (y : S90x5120.Idx) : iblk m c 4 t y = V m c main_v11 y := by
  blk_simp [iblk]
  refine congrArg (V m c main_v11) ?_
  funext a; apply Fin.ext
  have e := (place t).2.2.2.2.1
  match a with
  | ⟨0, _⟩ => blk_simp; rw [e]; show 0 * 90 + (y 0).val = (y 0).val; omega
  | ⟨1, _⟩ => blk_simp; rw [e]; show 0 * 5120 + (y 1).val = (y 1).val; omega

theorem iblk5 (c : Dev nD) (t : Fin cfg0.N) (y : S2880x128.Idx) : iblk m c 5 t y = V m c main_v20 y := by
  blk_simp [iblk]
  refine congrArg (V m c main_v20) ?_
  funext a; apply Fin.ext
  have e := (place t).2.2.2.2.2.1
  match a with
  | ⟨0, _⟩ => blk_simp; rw [e]; show 0 * 2880 + (y 0).val = (y 0).val; omega
  | ⟨1, _⟩ => blk_simp; rw [e]; show 0 * 128 + (y 1).val = (y 1).val; omega

theorem iblk6 (c : Dev nD) (t : Fin cfg0.N) (y : S128x256.Idx) : iblk m c 6 t y = V m c main_v23 y := by
  blk_simp [iblk]
  refine congrArg (V m c main_v23) ?_
  funext a; apply Fin.ext
  have e := (place t).2.2.2.2.2.2.1
  match a with
  | ⟨0, _⟩ => blk_simp; rw [e]; show 0 * 128 + (y 0).val = (y 0).val; omega
  | ⟨1, _⟩ => blk_simp; rw [e]; show 0 * 256 + (y 1).val = (y 1).val; omega

theorem iblk7 (c : Dev nD) (t : Fin cfg0.N) (y : S80x5120.Idx) : iblk m c 7 t y = V m c main_v24 y := by
  blk_simp [iblk]
  refine congrArg (V m c main_v24) ?_
  funext a; apply Fin.ext
  have e := (place t).2.2.2.2.2.2.2.1
  match a with
  | ⟨0, _⟩ => blk_simp; rw [e]; show 0 * 80 + (y 0).val = (y 0).val; omega
  | ⟨1, _⟩ => blk_simp; rw [e]; show 0 * 5120 + (y 1).val = (y 1).val; omega

/-! ## The arguments -/

/-- The token of array row `p`. -/
def bOf (p : Fin 24576) : Fin 24 := ⟨p.val / 1024, by omega⟩
def sOf (p : Fin 24576) : Fin 1024 := ⟨p.val % 1024, by omega⟩

abbrev A0 (c : Dev nD) : Cert.Spec.X0 := m ((c : Thread nD τ).loc main_arg0)
abbrev A1 (c : Dev nD) : Cert.Spec.X1 := m ((c : Thread nD τ).loc main_arg1)
abbrev A2 (c : Dev nD) : Cert.Spec.X2 := m ((c : Thread nD τ).loc main_arg2)
abbrev A3 (c : Dev nD) : Cert.Spec.X3 := m ((c : Thread nD τ).loc main_arg3)
abbrev A4 (c : Dev nD) : Cert.Spec.X4 := m ((c : Thread nD τ).loc main_arg4)
abbrev A5 (c : Dev nD) : Cert.Spec.X5 := m ((c : Thread nD τ).loc main_arg5)
abbrev A6 (c : Dev nD) : Cert.Spec.X6 := m ((c : Thread nD τ).loc main_arg6)

/-- A point's feature block, pooling matrix, first factor and tail operand, as arrays of extended reals. -/
def B0 (c : Dev nD) (t : Fin cfg0.N) : S512x2880.Idx → EReal := iblk m c 0 t
def B5 (c : Dev nD) (t : Fin cfg0.N) : S2880x128.Idx → EReal := iblk m c 5 t
def B6 (c : Dev nD) (t : Fin cfg0.N) : S128x256.Idx → EReal := iblk m c 6 t
def T (c : Dev nD) (t : Fin cfg0.N) : S512x256.Idx → EReal := tailV (B0 m c t) (iblk m c 1 t) (B5 m c t) (B6 m c t)
/-- The full scratch, the same. -/
def W (c : Dev nD) : S3072x5120.Idx → EReal := fullWeight m c

/-- Row `p`, column `o` of the region's result as specified. -/
def resultV (c : Dev nD) (p : Fin 24576) (o : Fin 5120) : EReal :=
  Cert.Spec.out (A0 m c) (A1 m c) (A2 m c) (A3 m c) (A4 m c) (A5 m c) (A6 m c) (bOf p) (sOf p) o

/-! ## The weight scratch -/

/-- A dequantized row of the scratch is the specified weight. -/
theorem full_weight (c : Dev nD) (h : ∀ i, (A3 m c i).toNat < 128) (k : Fin 2880) (o : Fin 5120) :
    W m c (ix2 (⟨k.val, by omega⟩ : Fin 3072) o) = Cert.Spec.weight (A1 m c) (A2 m c) (A3 m c) k o := by
  unfold W fullWeight
  rw [weightV_deq _ _ _ _ k.val (by omega) k.isLt o]
  unfold deqV Cert.Spec.weight
  rw [iblk2, iblk3, iblk4, V_v5, V_v11, V_main_arg1, half_mix, half_scale, half_zero _ _ (h _), cancel]

/-- An adapter row of the scratch. -/
theorem full_lora (c : Dev nD) (a : Fin 5) (j : Fin 16) (o : Fin 5120) :
    W m c (ix2 (⟨2880 + (16 * a.val + j.val), by omega⟩ : Fin 3072) o) = A5 m c (ix3 a j o) := by
  unfold W fullWeight
  rw [weightV_lora _ _ _ _ (2880 + (16 * a.val + j.val)) (by omega) (by omega) (by omega) o, iblk7, v24_apply]
  refine congrArg (A5 m c) ?_
  funext i; apply Fin.ext
  match i with
  | ⟨0, _⟩ => show (2880 + (16 * a.val + j.val) - 2880) / 16 = a.val; omega
  | ⟨1, _⟩ => show (2880 + (16 * a.val + j.val) - 2880) % 16 = j.val; omega
  | ⟨2, _⟩ => rfl

/-- The scratch's last rows are zero. -/
theorem full_zero (c : Dev nD) (r : ℕ) (hr : r < 3072) (h : 2960 ≤ r) (o : Fin 5120) :
    W m c (ix2 (⟨r, hr⟩ : Fin 3072) o) = 0 := weightV_zero _ _ _ _ r hr (by omega) o

/-! ## The tail operand -/

/-- The features of a block's row. -/
theorem feature (c : Dev nD) (t : Fin cfg0.N) (r : Fin 512) (k : Fin 2880) :
    B0 m c t (ix2 r k) = A0 m c (ix3 (bOf (rowOf t r)) (sOf (rowOf t r)) k) :=
  (iblk0 m c t r k).trans (v0_apply m c _ k)

/-- An entry of the pooling matrix. -/
theorem pool_apply (c : Dev nD) (t : Fin cfg0.N) (k : Fin 2880) (l : Fin 128) :
    B5 m c t (ix2 k l) = if k.val / 32 = l.val then (1 : EReal) else 0 :=
  (iblk5 m c t (ix2 k l)).trans (v20_apply m c k l)

/-- The tail operand's first 64 columns. -/
theorem tail_feature (c : Dev nD) (t : Fin cfg0.N) (r : Fin 512) (k : Fin 64) :
    T m c t (ix2 r (⟨k.val, by omega⟩ : Fin 256))
      = A0 m c (ix3 (bOf (rowOf t r)) (sOf (rowOf t r)) ⟨2816 + k.val, by omega⟩) :=
  (dif_pos k.isLt).trans (feature m c t r _)

/-- The pooled features of a block's row at one of the 90 groups. -/
theorem pooled (c : Dev nD) (t : Fin cfg0.N) (r : Fin 512) (g : Fin 90) :
    (∑ k : Fin 2880, B0 m c t (ix2 r k) * B5 m c t (ix2 k (⟨g.val, by omega⟩ : Fin 128))) * Ideal.ofBits .f32 0x3D000000#32
      = Cert.Spec.mean (A0 m c) (bOf (rowOf t r)) (sOf (rowOf t r)) g := by
  unfold Cert.Spec.mean
  refine congrArg (· * _) ?_
  let f : ℕ → EReal := fun k => if h : k < 2880 then A0 m c (ix3 (bOf (rowOf t r)) (sOf (rowOf t r)) ⟨k, h⟩) else 0
  have e1 : ∀ k : Fin 2880, B0 m c t (ix2 r k) * B5 m c t (ix2 k (⟨g.val, by omega⟩ : Fin 128))
      = f k.val * (if k.val / 32 = g.val then (1 : EReal) else 0) := fun k => by
    rw [feature, pool_apply]
    refine congrArg (· * _) ?_
    symm; exact dif_pos k.isLt
  have e2 : ∀ j : Fin 32, f (32 * g.val + j.val) = A0 m c (ix3 (bOf (rowOf t r)) (sOf (rowOf t r)) ⟨32 * g.val + j.val, by omega⟩) :=
    fun j => dif_pos (by omega)
  rw [Finset.sum_congr rfl fun k _ => e1 k, Cert.Sums.sum_pick f g]
  exact Finset.sum_congr rfl fun j _ => e2 j

/-- The tail operand's adapter columns. -/
theorem tail_adapter (c : Dev nD) (t : Fin cfg0.N) (r : Fin 512) (a : Fin 5) (j : Fin 16) :
    T m c t (ix2 r (⟨64 + (16 * a.val + j.val), by omega⟩ : Fin 256))
      = Cert.Spec.inner (A0 m c) (A4 m c) (A6 m c) (bOf (rowOf t r)) (sOf (rowOf t r)) a j := by
  refine (dif_neg (show ¬(64 + (16 * a.val + j.val) < 64) by omega)).trans ?_
  refine (pay11_apply (B0 m c t) (iblk m c 1 t) (B5 m c t) (B6 m c t) r _).trans ?_
  rw [iblk1, v1_apply, column_adapter]
  unfold Cert.Spec.inner
  refine if_congr Iff.rfl ?_ rfl
  let f : ℕ → EReal := fun g => if h : g < 128 then
      ((∑ k : Fin 2880, B0 m c t (ix2 r k) * B5 m c t (ix2 k (⟨g, h⟩ : Fin 128))) * Ideal.ofBits .f32 0x3D000000#32)
        * B6 m c t (ix2 (⟨g, h⟩ : Fin 128) (⟨64 + (16 * a.val + j.val), by omega⟩ : Fin 256)) else 0
  have e1 : ∀ g : Fin 128, f g.val = ((∑ k : Fin 2880, B0 m c t (ix2 r k) * B5 m c t (ix2 k g)) * Ideal.ofBits .f32 0x3D000000#32)
        * B6 m c t (ix2 g (⟨64 + (16 * a.val + j.val), by omega⟩ : Fin 256)) := fun g => dif_pos g.isLt
  have e2 : ∀ g : Fin 90, f g.val = Cert.Spec.mean (A0 m c) (bOf (rowOf t r)) (sOf (rowOf t r)) g * A4 m c (ix3 a g j) := fun g => by
    refine (dif_pos (show g.val < 128 by omega)).trans ?_
    rw [pooled]
    exact congrArg (_ * ·) ((iblk6 m c t _).trans (v23_in m c g a j))
  rw [← Finset.sum_congr rfl fun g _ => e1 g, Cert.Sums.sum_front 90 38 128 rfl f ?_]
  · exact Finset.sum_congr rfl fun g _ => e2 g
  · intro g hg hg'
    refine (dif_pos hg').trans ?_
    rw [show B6 m c t (ix2 (⟨g, hg'⟩ : Fin 128) (⟨64 + (16 * a.val + j.val), by omega⟩ : Fin 256)) = 0 from
      (iblk6 m c t _).trans (v23_below m c _ _ hg), mul_zero]

/-! ## A block of the result -/

/-- An entry of the block a point leaves is the specified value. -/
theorem block_apply (c : Dev nD) (h : ∀ i, (A3 m c i).toNat < 128) (t : Fin cfg0.N) (r : Fin 512) (o : Fin 5120) :
    blockV (iblk m c 0 t) (iblk m c 1 t) (iblk m c 5 t) (iblk m c 6 t) (fullWeight m c) (ix2 r o)
      = resultV m c (rowOf t r) o := by
  unfold blockV blockOf resultV Cert.Spec.out
  show (∑ k : Fin 2816, B0 m c t (ix2 r (⟨k.val, by omega⟩ : Fin 2880)) * W m c (ix2 (⟨k.val, by omega⟩ : Fin 3072) o))
    + (∑ k : Fin 256, T m c t (ix2 r k)
        * W m c (ix2 (⟨2816 + k.val, by omega⟩ : Fin 3072) o)) = _
  let f : ℕ → EReal := fun k => if h : k < 2880 then A0 m c (ix3 (bOf (rowOf t r)) (sOf (rowOf t r)) ⟨k, h⟩)
      * Cert.Spec.weight (A1 m c) (A2 m c) (A3 m c) ⟨k, h⟩ o else 0
  let g : ℕ → EReal := fun k => if h : k < 256 then
      T m c t (ix2 r (⟨k, h⟩ : Fin 256))
        * W m c (ix2 (⟨2816 + k, by omega⟩ : Fin 3072) o) else 0
  have ef : ∀ k : Fin 2880, f k.val = A0 m c (ix3 (bOf (rowOf t r)) (sOf (rowOf t r)) k)
      * Cert.Spec.weight (A1 m c) (A2 m c) (A3 m c) k o := fun k => dif_pos k.isLt
  have e1 : ∀ k : Fin 2816, B0 m c t (ix2 r (⟨k.val, by omega⟩ : Fin 2880)) * W m c (ix2 (⟨k.val, by omega⟩ : Fin 3072) o)
      = f k.val := fun k => by
    rw [feature, full_weight m c h ⟨k.val, by omega⟩ o]
    symm; exact dif_pos (show k.val < 2880 by omega)
  have eg : ∀ k : Fin 256, T m c t (ix2 r k)
        * W m c (ix2 (⟨2816 + k.val, by omega⟩ : Fin 3072) o) = g k.val := fun k => by
    symm; exact dif_pos k.isLt
  have e2 : ∀ k : Fin 64, g k.val = f (2816 + k.val) := fun k => by
    refine (dif_pos (show k.val < 256 by omega)).trans ?_
    rw [tail_feature, full_weight m c h ⟨2816 + k.val, by omega⟩ o]
    symm; exact dif_pos (show 2816 + k.val < 2880 by omega)
  have e3 : ∀ (a : Fin 5) (j : Fin 16), g (64 + (16 * a.val + j.val))
      = Cert.Spec.inner (A0 m c) (A4 m c) (A6 m c) (bOf (rowOf t r)) (sOf (rowOf t r)) a j * A5 m c (ix3 a j o) := fun a j => by
    refine (dif_pos (show 64 + (16 * a.val + j.val) < 256 by omega)).trans ?_
    rw [tail_adapter, ← full_lora m c a j o]
    refine congrArg (fun i => _ * W m c (ix2 i o)) (Fin.ext ?_)
    show 2816 + (64 + (16 * a.val + j.val)) = 2880 + (16 * a.val + j.val)
    omega
  have e4 : ∀ k, 80 ≤ k → k < 192 → g (64 + k) = 0 := fun k hk hk' => by
    refine (dif_pos (show 64 + k < 256 by omega)).trans ?_
    rw [full_zero m c _ _ (by omega), mul_zero]
  rw [Finset.sum_congr rfl fun k _ => e1 k, Finset.sum_congr rfl fun k _ => eg k,
    Cert.Sums.sum_cut 64 192 256 rfl g, Finset.sum_congr rfl fun k _ => e2 k, ← add_assoc,
    ← Cert.Sums.sum_cut 2816 64 2880 rfl f, Finset.sum_congr rfl fun k _ => ef k,
    Cert.Sums.sum_front 80 112 192 rfl (fun k => g (64 + k)) e4,
    Cert.Sums.sum_blocks 5 16 80 rfl (fun k => g (64 + k))]
  refine congrArg (_ + ·) ?_
  exact Finset.sum_congr rfl fun a _ => Finset.sum_congr rfl fun j _ => e3 a j

/-! ## The region's result array -/

/-- The region's result array ends at the specified values. -/
theorem arr_final (c : Dev nD) (h : ∀ i, (A3 m c i).toNat < 128) :
    (dats m 0 c).arrAt 8 cfg0.N = fun i : S24576x5120.Idx => resultV m c (i 0) (i 1) := by
  refine (dats m 0 c).arrAt_eq_of_covers 8 _ (by decide +kernel) fun t hf y => ?_
  blk_simp
  rw [after0_8]
  have e := (place t).2.2.2.2.2.2.2.2
  have hy : y = ix2 (y (0 : Fin 2) : Fin 512) (y (1 : Fin 2) : Fin 5120) := by
    funext a; match a with | ⟨0, _⟩ => rfl | ⟨1, _⟩ => rfl
  refine (congrArg _ hy).trans ((block_apply m c h t (y (0 : Fin 2)) (y (1 : Fin 2))).trans ?_)
  refine congrArg₂ (resultV m c) (Fin.ext ?_) (Fin.ext ?_)
  · blk_simp; rw [e]; show 512 * t.val + (y (0 : Fin 2)).val = t.val * 512 + (y (0 : Fin 2)).val; omega
  · blk_simp; rw [e]; show (y (1 : Fin 2)).val = 0 * 5120 + (y (1 : Fin 2)).val; omega

end Cert.KernelIdeal.Hand

end
-- ==== Proof.Ref.lean ====
/- The reference program's result, read at an index, is the specified value. -/
module

public import proofs.«01_k».proof.Proof.Gen.ReferenceIdeal.Read
public import proofs.«01_k».proof.Proof.Spec
public import Idealize.ShloMosaic.Lib.ValueIdxCoords
public import Idealize.ShloMosaic.Lib.TwoAxisContraction
public import Idealize.ShloMosaic.Lib.IdealHost

@[expose] public section

noncomputable section

namespace Cert.ReferenceIdeal.Hand

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

variable (x0 : (⟨S24x1024x2880, .bf16⟩ : BufTy).Contents (Elt Ideal)) (x1 : (⟨S1440x5120, .i8⟩ : BufTy).Contents (Elt Ideal))
  (x2 : (⟨S90x5120, .i16⟩ : BufTy).Contents (Elt Ideal)) (x3 : (⟨S90x5120, .i8⟩ : BufTy).Contents (Elt Ideal))
  (x4 : (⟨S5x90x16, .bf16⟩ : BufTy).Contents (Elt Ideal)) (x5 : (⟨S5x16x5120, .bf16⟩ : BufTy).Contents (Elt Ideal))
  (x6 : (⟨S24x1024, .i32⟩ : BufTy).Contents (Elt Ideal))

/-! ## The weights -/

/-- Masking a byte by 15 in a 32-bit word leaves its low four-bit field. -/
theorem low_toInt (b : BitVec 8) : (IntOp.andi (b.setWidth 32) 15#32).toInt = ((b.toNat % 16 : ℕ) : ℤ) := by
  revert b; decide

/-- Shifting a byte right by four in a 32-bit word leaves its high four-bit field. -/
theorem high_toInt (b : BitVec 8) : (IntOp.shrsi .host (b.setWidth 32) 4#32).toInt = ((b.toNat / 16 : ℕ) : ℤ) := by
  revert b; decide

/-- A byte widened to 32 bits reads the same signed. -/
theorem wide_toInt (b : BitVec 8) : (b.setWidth 32).toInt = (b.toNat : ℤ) := by
  revert b; decide

/-- The zero points read at a group and a column. -/
theorem zeros_apply (i : S90x16x5120.Idx) : val_main_v10 (F := Ideal) x3 i
    = (((x3 (ix2 (i 0) (i 2))).toNat : ℝ) : EReal) := by
  rw [val_main_v10_apply, val_main_v2_apply, val_main_v1_apply, val_main_v0_apply]
  show ((((x3 _).setWidth 32).toInt : ℝ) : EReal) = _
  rw [wide_toInt]
  have : (idx_main_v2 (idx_main_v10 i)) = ix2 (i 0) (i 2) := by
    funext a; match a with | ⟨0, _⟩ => rfl | ⟨1, _⟩ => rfl
  rw [this]; norm_cast

/-- The same for the second half's spelling. -/
theorem zeros_apply' (i : S90x16x5120.Idx) : val_main_v19 (F := Ideal) x3 i
    = (((x3 (ix2 (i 0) (i 2))).toNat : ℝ) : EReal) := zeros_apply x3 i

/-- The scales read at a group and a column. -/
theorem scales_apply (i : S90x16x5120.Idx) : val_main_v12 (F := Ideal) x2 i = Ideal.ofBits .bf16 (x2 (ix2 (i 0) (i 2))) := by
  rw [val_main_v12_apply, val_main_v4_apply, val_main_v3_apply]
  have : (idx_main_v4 (idx_main_v12 i)) = ix2 (i 0) (i 2) := by
    funext a; match a with | ⟨0, _⟩ => rfl | ⟨1, _⟩ => rfl
  rw [this]; rfl

/-- The same for the second half's spelling. -/
theorem scales_apply' (i : S90x16x5120.Idx) : val_main_v21 (F := Ideal) x2 i = Ideal.ofBits .bf16 (x2 (ix2 (i 0) (i 2))) :=
  scales_apply x2 i

/-- The low fields' half of the weights, at packed row `p`. -/
theorem low_apply (p : Fin 1440) (o : Fin 5120) : val_main_v14 (F := Ideal) x1 x2 x3 (ix2 p o)
    = ((((x1 (ix2 p o)).toNat % 16 : ℕ) : ℝ) - (((x3 (ix2 ⟨p.val / 16, by omega⟩ o)).toNat : ℝ) : EReal))
      * Ideal.ofBits .bf16 (x2 (ix2 ⟨p.val / 16, by omega⟩ o)) := by
  rw [val_main_v14_apply, val_main_v13_apply, val_main_v11_apply, zeros_apply, scales_apply, val_main_v9_apply, val_main_v8_apply,
    val_main_v7_apply, val_main_v5_apply, val_main_v6_apply, val_main_c_apply]
  have h0 : (idx_main_v9 (idx_main_v14 (ix2 p o))) = ix2 p o := by
    funext a
    match a with
    | ⟨0, _⟩ => exact Fin.ext (by show _ = p.val; have := p.isLt; have := o.isLt; simp only [ix2_0, ix2_1]; omega)
    | ⟨1, _⟩ => exact Fin.ext (by show _ = o.val; have := p.isLt; have := o.isLt; simp only [ix2_0, ix2_1]; omega)
  have h1 : (ix2 ((idx_main_v14 (ix2 p o)) 0) ((idx_main_v14 (ix2 p o)) 2) : S90x5120.Idx) = ix2 ⟨p.val / 16, by omega⟩ o := by
    funext a
    match a with
    | ⟨0, _⟩ => exact Fin.ext (by show _ = p.val / 16; have := p.isLt; have := o.isLt; simp only [ix2_0, ix2_1]; omega)
    | ⟨1, _⟩ => exact Fin.ext (by show _ = o.val; have := p.isLt; have := o.isLt; simp only [ix2_0, ix2_1]; omega)
  rw [h0, h1]
  show ((((IntOp.andi ((x1 (ix2 p o)).setWidth 32) 15#32).toInt : ℝ) : EReal) - _) * _ = _
  rw [low_toInt]; norm_cast

/-- The high fields' half of the weights, at packed row `p`. -/
theorem high_apply (p : Fin 1440) (o : Fin 5120) : val_main_v23 (F := Ideal) x1 x2 x3 (ix2 p o)
    = ((((x1 (ix2 p o)).toNat / 16 : ℕ) : ℝ) - (((x3 (ix2 ⟨p.val / 16, by omega⟩ o)).toNat : ℝ) : EReal))
      * Ideal.ofBits .bf16 (x2 (ix2 ⟨p.val / 16, by omega⟩ o)) := by
  rw [val_main_v23_apply, val_main_v22_apply, val_main_v20_apply, zeros_apply', scales_apply', val_main_v18_apply, val_main_v17_apply,
    val_main_v16_apply, val_main_v5_apply, val_main_v15_apply, val_main_c_0_apply]
  have h0 : (idx_main_v18 (idx_main_v23 (ix2 p o))) = ix2 p o := by
    funext a
    match a with
    | ⟨0, _⟩ => exact Fin.ext (by show _ = p.val; have := p.isLt; have := o.isLt; simp only [ix2_0, ix2_1]; omega)
    | ⟨1, _⟩ => exact Fin.ext (by show _ = o.val; have := p.isLt; have := o.isLt; simp only [ix2_0, ix2_1]; omega)
  have h1 : (ix2 ((idx_main_v23 (ix2 p o)) 0) ((idx_main_v23 (ix2 p o)) 2) : S90x5120.Idx) = ix2 ⟨p.val / 16, by omega⟩ o := by
    funext a
    match a with
    | ⟨0, _⟩ => exact Fin.ext (by show _ = p.val / 16; have := p.isLt; have := o.isLt; simp only [ix2_0, ix2_1]; omega)
    | ⟨1, _⟩ => exact Fin.ext (by show _ = o.val; have := p.isLt; have := o.isLt; simp only [ix2_0, ix2_1]; omega)
  rw [h0, h1]
  show ((((IntOp.shrsi .host ((x1 (ix2 p o)).setWidth 32) 4#32).toInt : ℝ) : EReal) - _) * _ = _
  rw [high_toInt]; norm_cast

/-- The reference's weight matrix is the specified one. -/
theorem weight_apply (k : Fin 2880) (o : Fin 5120) :
    val_main_v27 (F := Ideal) x1 x2 x3 (ix2 k o) = Cert.Spec.weight x1 x2 x3 k o := by
  have hk := k.isLt
  have ho := o.isLt
  rw [val_main_v27_apply]
  have hj : idx_main_v27 (ix2 k o) = ix3 ⟨k.val / 2, by omega⟩ ⟨k.val % 2, by omega⟩ o := by
    funext a
    match a with
    | ⟨0, _⟩ => exact Fin.ext (by show _ = k.val / 2; simp only [ix2_0, ix2_1]; omega)
    | ⟨1, _⟩ => exact Fin.ext (by show _ = k.val % 2; simp only [ix2_0, ix2_1]; omega)
    | ⟨2, _⟩ => exact Fin.ext (by show _ = o.val; simp only [ix2_0, ix2_1]; omega)
  rw [hj]
  unfold Cert.Spec.weight Cert.Spec.field
  have h16 : k.val / 2 / 16 = k.val / 32 := by omega
  have hg : (⟨k.val / 2 / 16, by omega⟩ : Fin 90) = ⟨k.val / 32, by omega⟩ := Fin.ext h16
  by_cases h : k.val % 2 = 0
  · rw [if_pos h]
    unfold val_main_v26
    rw [concatenate_pair_apply_left 1 _ _ concatenates_S1440x1x5120_S1440x1x5120_S1440x2x5120_d1
      (ix3 ⟨k.val / 2, by omega⟩ ⟨k.val % 2, by omega⟩ o) rfl (ix3 ⟨k.val / 2, by omega⟩ 0 o) (fun b => match b with
        | ⟨0, _⟩ => rfl
        | ⟨1, _⟩ => h.symm
        | ⟨2, _⟩ => rfl), val_main_v24_apply]
    have : idx_main_v24 (ix3 (⟨k.val / 2, by omega⟩ : Fin 1440) (0 : Fin 1) o) = ix2 ⟨k.val / 2, by omega⟩ o := by
      funext a; match a with | ⟨0, _⟩ => rfl | ⟨1, _⟩ => rfl
    rw [this, low_apply, hg]
  · rw [if_neg h]
    unfold val_main_v26
    rw [concatenate_pair_apply_right 1 _ _ concatenates_S1440x1x5120_S1440x1x5120_S1440x2x5120_d1
      (ix3 ⟨k.val / 2, by omega⟩ ⟨k.val % 2, by omega⟩ o) rfl rfl (ix3 ⟨k.val / 2, by omega⟩ 0 o) (fun b hb => match b, hb with
        | ⟨0, _⟩, _ => rfl
        | ⟨1, _⟩, hb => absurd rfl hb
        | ⟨2, _⟩, _ => rfl) (by show 0 + 1 = k.val % 2; omega), val_main_v25_apply]
    have : idx_main_v25 (ix3 (⟨k.val / 2, by omega⟩ : Fin 1440) (0 : Fin 1) o) = ix2 ⟨k.val / 2, by omega⟩ o := by
      funext a; match a with | ⟨0, _⟩ => rfl | ⟨1, _⟩ => rfl
    rw [this, high_apply, hg]

/-! ## The adapters -/

/-- The reference's group means are the specified ones. -/
theorem mean_apply (b : Fin 24) (s : Fin 1024) (g : Fin 90) :
    val_main_v34 (F := Ideal) x0 (ix3 b s g) = Cert.Spec.mean x0 b s g := by
  rw [val_main_v34_apply]
  show val_main_v33 (F := Ideal) x0 (ix3 b s g) = _
  rw [val_main_v33_apply, val_main_v32_apply, val_main_cst_1_apply, val_main_v31_apply, val_main_cst_apply]
  show (Ideal.ofBits .f32 0x00000000#32 + _) * Ideal.ofBits .f32 0x3D000000#32 = _
  rw [Ideal.ofBits_zero_f32, zero_add]
  unfold Cert.Spec.mean
  congr 1
  refine Finset.sum_congr rfl fun j _ => ?_
  rw [val_main_v30_apply, val_main_v29_apply]
  show x0 _ = _
  congr 1
  have := b.isLt; have := s.isLt; have := g.isLt; have := j.isLt
  funext a
  match a with
  | ⟨0, _⟩ => exact Fin.ext (by show _ = b.val; simp only [ix3_0, ix3_1, ix3_2]; omega)
  | ⟨1, _⟩ => exact Fin.ext (by show _ = s.val; simp only [ix3_0, ix3_1, ix3_2]; omega)
  | ⟨2, _⟩ => exact Fin.ext (by show _ = 32 * g.val + j.val; simp only [ix3_0, ix3_1, ix3_2]; omega)

/-- The reference's masked first factor is the specified one. -/
theorem inner_apply (b : Fin 24) (s : Fin 1024) (a : Fin 5) (r : Fin 16) :
    val_main_v42 (F := Ideal) x0 x4 x6 (ix4 b s a r) = Cert.Spec.inner x0 x4 x6 b s a r := by
  rw [val_main_v42_apply]
  show val_main_v41 (F := Ideal) x0 x4 x6 (ix4 b s a r) = _
  rw [val_main_v41_apply, val_main_v40_apply, val_main_v39_apply, val_main_v38_apply, val_main_v37_apply, val_main_cst_2_apply,
    val_main_v36_apply, val_main_call0_v4_apply, val_main_call0_v2_apply, val_main_call0_v0_apply, val_main_call0_v3_apply,
    val_main_call0_v1_apply, val_main_v35_apply]
  show ((∑ k : Fin 90, val_main_v34 (F := Ideal) x0 _ * x4 _) * Ideal.ofBits .f32 0x3F800000#32)
    * (((IntOp.cmpi .eq (x6 _) (BitVec.ofNat 32 a.val)).toNat : ℝ) : EReal) = _
  rw [Ideal.ofBits_one_f32, mul_one]
  have h6 : idx_main_call0_v0 (idx_main_call0_v2 (idx_main_v39 (idx_main_v40 (ix4 b s a r)))) = ix2 b s := by
    funext a; match a with | ⟨0, _⟩ => rfl | ⟨1, _⟩ => rfl
  rw [h6]
  unfold Cert.Spec.inner
  have hs : (∑ k : Fin 90, val_main_v34 (F := Ideal) x0 (lidx_main_v35 (ix4 b s a r) k) * x4 (ridx_main_v35 (ix4 b s a r) k))
      = ∑ g : Fin 90, Cert.Spec.mean x0 b s g * x4 (ix3 a g r) := by
    refine Finset.sum_congr rfl fun g _ => ?_
    have e1 : lidx_main_v35 (ix4 b s a r) g = ix3 b s g := by
      funext a; match a with | ⟨0, _⟩ => rfl | ⟨1, _⟩ => rfl | ⟨2, _⟩ => rfl
    have e2 : ridx_main_v35 (ix4 b s a r) g = ix3 a g r := by
      funext a; match a with | ⟨0, _⟩ => rfl | ⟨1, _⟩ => rfl | ⟨2, _⟩ => rfl
    rw [e1, e2, mean_apply]
  rw [hs]
  by_cases h : x6 (ix2 b s) = BitVec.ofNat 32 a.val
  · rw [if_pos h, h]
    have : IntOp.cmpi .eq (BitVec.ofNat 32 a.val) (BitVec.ofNat 32 a.val) = 1#1 := by simp [IntOp.cmpi]
    rw [this]; simp
  · rw [if_neg h]
    have : IntOp.cmpi .eq (x6 (ix2 b s)) (BitVec.ofNat 32 a.val) = 0#1 := by
      show BitVec.ofBool (x6 (ix2 b s) == BitVec.ofNat 32 a.val) = 0#1
      rw [beq_eq_false_iff_ne.mpr h]; rfl
    rw [this]; simp

/-- The contraction over adapter and rank is the double sum. -/
theorem delta_apply (b : Fin 24) (s : Fin 1024) (o : Fin 5120) :
    val_main_v43 (F := Ideal) x0 x4 x5 x6 (ix3 b s o)
      = ∑ a : Fin 5, ∑ r : Fin 16, Cert.Spec.inner x0 x4 x6 b s a r * x5 (ix3 a r o) := by
  unfold val_main_v43
  have hin := inner_apply x0 x4 x6 b s
  generalize val_main_v42 (F := Ideal) x0 x4 x6 = y at hin
  simp only [Host.dotGeneral]
  rw [Ideal.dotGeneral_apply, sum_contr2 dot_S24x1024x5x16_S5x16x5120_S24x1024x5120_23_01_01_2_n_n 5 16 rfl rfl rfl]
  refine Finset.sum_congr rfl fun a _ => Finset.sum_congr rfl fun r _ => ?_
  have k0 := contrEquiv2_symm_val0 dot_S24x1024x5x16_S5x16x5120_S24x1024x5120_23_01_01_2_n_n 5 16 rfl rfl rfl (a, r)
  have k1 := contrEquiv2_symm_val1 dot_S24x1024x5x16_S5x16x5120_S24x1024x5120_23_01_01_2_n_n 5 16 rfl rfl rfl (a, r)
  generalize (contrEquiv2 dot_S24x1024x5x16_S5x16x5120_S24x1024x5120_23_01_01_2_n_n 5 16 rfl rfl rfl).symm (a, r) = q at k0 k1
  have e1 : dot_S24x1024x5x16_S5x16x5120_S24x1024x5120_23_01_01_2_n_n.lhsIdx (ix3 b s o) q = ix4 b s a r := by
    funext d
    match d with
    | ⟨0, _⟩ => exact Fin.ext rfl
    | ⟨1, _⟩ => exact Fin.ext rfl
    | ⟨2, _⟩ => exact Fin.ext k0
    | ⟨3, _⟩ => exact Fin.ext k1
  have e2 : dot_S24x1024x5x16_S5x16x5120_S24x1024x5120_23_01_01_2_n_n.rhsIdx (ix3 b s o) q = ix3 a r o := by
    funext d
    match d with
    | ⟨0, _⟩ => exact Fin.ext k0
    | ⟨1, _⟩ => exact Fin.ext k1
    | ⟨2, _⟩ => exact Fin.ext rfl
  rw [e1, e2, hin]

/-- The reference's result at an index is the specified value. -/
theorem out_apply (b : Fin 24) (s : Fin 1024) (o : Fin 5120) :
    val_main_v45 (F := Ideal) x0 x1 x2 x3 x4 x5 x6 (ix3 b s o) = Cert.Spec.out x0 x1 x2 x3 x4 x5 x6 b s o := by
  rw [val_main_v45_apply]
  show val_main_v44 (F := Ideal) x0 x1 x2 x3 x4 x5 x6 (ix3 b s o) = _
  rw [val_main_v44_apply]
  show val_main_v28 (F := Ideal) x0 x1 x2 x3 (ix3 b s o) + val_main_v43 (F := Ideal) x0 x4 x5 x6 (ix3 b s o) = _
  rw [delta_apply, val_main_v28_apply]
  unfold Cert.Spec.out
  congr 1
  refine Finset.sum_congr rfl fun k _ => ?_
  have e1 : lidx_main_v28 (ix3 b s o) k = ix3 b s k := by
    funext a; match a with | ⟨0, _⟩ => rfl | ⟨1, _⟩ => rfl | ⟨2, _⟩ => rfl
  have e2 : ridx_main_v28 (ix3 b s o) k = ix2 k o := by
    funext a; match a with | ⟨0, _⟩ => rfl | ⟨1, _⟩ => rfl
  rw [e1, e2, weight_apply]

end Cert.ReferenceIdeal.Hand

end
-- ==== Proof.Result.lean ====
/- The two runs end with the specified values in their result arrays. -/
module

public import proofs.«01_k».proof.Proof.Final
public import proofs.«01_k».proof.Proof.Ref
public import proofs.«01_k».proof.Pre_zeros_below_128
public import proofs.«01_k».proof.Proof.Gen.ReferenceIdeal.Run
public import Idealize.ShloMosaic.Lib.StableHlo.RunRead

@[expose] public section

set_option maxRecDepth 16384

noncomputable section

namespace Cert.KernelIdeal.Hand

open Cert.KernelIdeal.Gen
open Idealize.ShloMosaic hiding ix2 ix3
open Idealize.ShloMosaic.ValueIdx Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-- The specified result, as an array. -/
def outV (c : Dev nD) : S24x1024x5120.Idx → EReal := fun i =>
  Cert.Spec.out (A0 m c) (A1 m c) (A2 m c) (A3 m c) (A4 m c) (A5 m c) (A6 m c) (i 0) (i 1) (i 2)

/-- The region's result array, split back into batches, is the specified result. -/
theorem split_rows (c : Dev nD) :
    shapeCast S24x1024x5120 (fun i : S24576x5120.Idx => resultV m c (i 0) (i 1)) shapeCasts_S24576x5120_S24x1024x5120
      = outV m c := by
  funext j
  have hb : (j 0).val < 24 := (j 0).isLt
  have hs : (j 1).val < 1024 := (j 1).isLt
  refine (shapeCast_apply _ _ j (ix2 (⟨1024 * (j 0).val + (j 1).val, by omega⟩ : Fin 24576) (j 2 : Fin 5120)) ?_).trans ?_
  · rw [Shape.rowMajor_val_two, Shape.rowMajor_val_three]
    show (1024 * (j 0).val + (j 1).val) * 5120 + (j 2).val = ((j 0).val * 1024 + (j 1).val) * 5120 + (j 2).val
    omega
  · have e0 : bOf (⟨1024 * (j 0).val + (j 1).val, by omega⟩ : Fin 24576) = (j 0 : Fin 24) :=
      Fin.ext (show (1024 * (j 0).val + (j 1).val) / 1024 = (j 0).val by omega)
    have e1 : sOf (⟨1024 * (j 0).val + (j 1).val, by omega⟩ : Fin 24576) = (j 1 : Fin 1024) :=
      Fin.ext (show (1024 * (j 0).val + (j 1).val) % 1024 = (j 1).val by omega)
    show Cert.Spec.out (A0 m c) (A1 m c) (A2 m c) (A3 m c) (A4 m c) (A5 m c) (A6 m c) (bOf _) (sOf _) (j 2) = _
    rw [e0, e1]
    rfl

/-- No two windows stage one array. -/
theorem arrRef_injective : Function.Injective (Pipeline.arrRef spec0) := by decide

/-- After the region, the host's reshape leaves the specified result in the kernel's result buffer. -/
theorem tail_out (c : Dev nD) (h : ∀ i, (A3 m c i).toNat < 128) :
    Pipeline.afterTail₀ cfgs (dats m) 0 (V0 m) [hostOps1] c main_v26 = outV m c := by
  have e : Pipeline.withArrays (cfgs 0).spec c (V0 m c) (fun w => (dats m 0 c).arrAt w (cfgs 0).N) (Proc.devRef .tc main_v25)
      = fun i : S24576x5120.Idx => resultV m c (i 0) (i 1) :=
    (Pipeline.withArrays_arr spec0 arrRef_injective c (V0 m c) (fun w => (dats m 0 c).arrAt w (cfgs 0).N) 8).trans
      (arr_final m c h)
  unfold Pipeline.afterTail₀
  generalize Pipeline.withArrays (cfgs 0).spec c (V0 m c) (fun w => (dats m 0 c).arrAt w (cfgs 0).N) = U at e ⊢
  refine Eq.trans ?_ (split_rows m c)
  rw [← e]
  simp only [hostOps1, List.flatten_cons, List.flatten_nil, List.append_nil, List.cons_append, List.nil_append]
  after_reads_simp
  rfl

/-- The kernel's run: the result buffer ends at the specified result, the arguments unchanged. -/
theorem run_result (h : ∀ c i, (A3 m c i).toNat < 128) :
    θ_run defs (onTc (τ := τ) (main (F := Ideal))) ⟨m, fun _ => 0, ρ⟩ (fun r => ∀ c : Dev nD,
      r.2.mem ((c.tc : Thread nD τ).loc main_v26) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hv : θ_run defs (onTc (τ := τ) (main (F := Ideal))) ⟨m, fun _ => 0, ρ⟩ (fun r => ∀ c : Dev nD,
      r.2.mem ((c.tc : Thread nD τ).loc main_v26) = outV m c) :=
    (θ_run defs _ _).mono (fun _ H c =>
      ((H c).2 main_v26 (Pipeline.mem_restRefs_of main_v26 (by decide) (by decide))).trans (tail_out m c (h c))) (run_main m ρ)
  exact (θ_run defs _ _).mono (fun _ H c => ⟨H.1 c, H.2 c⟩)
    (θ_run_and hv (frame_of m ρ (dats m) (A_eq m) (run_main m ρ)))

/-- The precondition, read at an index: every zero point is below 128. -/
theorem zeros_lt [Cert.Pre_zeros_below_128.Facts] (x0 : Cert.Spec.X0) (x1 : Cert.Spec.X1) (x2 : Cert.Spec.X2)
    (x3 : Cert.Spec.X3) (x4 : Cert.Spec.X4) (x5 : Cert.Spec.X5) (x6 : Cert.Spec.X6)
    (h : Cert.Pre_zeros_below_128.fn (F := Ideal) x0 x1 x2 x3 x4 x5 x6 = fun _ => 1#1) (i) : (x3 i).toNat < 128 :=
  IntOp.cmpi_ult.mp (congrFun h i)

end Cert.KernelIdeal.Hand

namespace Cert.ReferenceIdeal.Hand

open Idealize.ShloMosaic hiding ix2 ix3
open Idealize.ShloMosaic.ValueIdx Idealize.ShloMosaic.TcCoe Idealize.SL.Sem
open Cert.ReferenceIdeal.Read

/-- The reference's result, as an array. -/
theorem out_eq (x0 : Cert.Spec.X0) (x1 : Cert.Spec.X1) (x2 : Cert.Spec.X2) (x3 : Cert.Spec.X3) (x4 : Cert.Spec.X4)
    (x5 : Cert.Spec.X5) (x6 : Cert.Spec.X6) :
    val_main_v45 (F := Ideal) x0 x1 x2 x3 x4 x5 x6
      = fun i : S24x1024x5120.Idx => Cert.Spec.out x0 x1 x2 x3 x4 x5 x6 (i 0) (i 1) (i 2) := by
  funext i
  have hi : i = ix3 (i 0 : Fin 24) (i 1 : Fin 1024) (i 2 : Fin 5120) := by
    funext a; match a with | ⟨0, _⟩ => rfl | ⟨1, _⟩ => rfl | ⟨2, _⟩ => rfl
  exact (congrArg _ hi).trans (out_apply x0 x1 x2 x3 x4 x5 x6 _ _ _)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_zeros_below_128
public import proofs.«01_k».proof.Proof.KernelFrame
public import proofs.«01_k».proof.Proof.Result
public import Idealize.ShloMosaic.Adequacy
public import Idealize.ShloMosaic.Init

@[expose] public section

noncomputable section

namespace Cert.Proof

open Idealize.ShloMosaic Idealize.SL.Sem

/-- The reference terminates, leaves its arguments unchanged and every semaphore counter at zero (it has none). -/
theorem frame_reference : Cert.quiescent_ReferenceIdeal := fun m ρ _ =>
  (θ_run Cert.ReferenceIdeal.defs _ _).mono (fun r h => And.intro (fun c => (h c).2)
    (Idealize.ShloMosaic.sem_eq_zero_of_no_sems (by decide) r.2)) (Cert.ReferenceIdeal.Value.run (F := Ideal) m ρ)

/-- Where every zero point is below 128, kernel and reference end with the same result. -/
theorem algebraic : Cert.algebraic_KernelIdeal_ReferenceIdeal_pre_zeros_below_128 := by
  intro m ρ m' ρ' hpre hagree
  refine ⟨fun c => Cert.KernelIdeal.Hand.outV m c,
    Cert.KernelIdeal.Hand.run_result m ρ fun c => Cert.KernelIdeal.Hand.zeros_lt _ _ _ _ _ _ _ (hpre c), ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v45_eq _ _ _ _ _ _ _).trans ((Cert.ReferenceIdeal.Hand.out_eq _ _ _ _ _ _ _).trans ?_)
  obtain ⟨h0, h1, h2, h3, h4, h5, h6⟩ := hagree c
  rw [h0, h1, h2, h3, h4, h5, h6]
  rfl

/-- Everything the certificate claims. -/
theorem claim : Cert.Claim :=
  ⟨Cert.Kernel.Gen.facts, Cert.KernelIdeal.Gen.facts, Cert.ReferenceIdeal.Gen.facts, Cert.Pre_zeros_below_128.Gen.facts,
    fun m ρ _ => Cert.Kernel.Hand.frame m ρ, fun m ρ _ => Cert.KernelIdeal.Hand.frame m ρ,
    fun m ρ _ => Cert.KernelIdeal.Hand.frame m ρ, frame_reference, fun m ρ _ => frame_reference m ρ trivial,
    trivial, algebraic⟩

end Cert.Proof

end
